-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gate [hPre_finite_gate : Cert.Pre_finite_gate.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 = (fun _ => 1#1)
    ∧ (Cert.Pre_finite_gate.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gate [hPre_finite_gate : Cert.Pre_finite_gate.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.1 = (fun _ => 1#1)
    ∧ (Cert.Pre_finite_gate.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_gate [hKernelIdeal : Cert.KernelIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gate m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_gate [hReferenceIdeal : Cert.ReferenceIdeal.Facts] [hPre_finite_gate : Cert.Pre_finite_gate.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gate m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite_gate [hKernelIdeal : Cert.KernelIdeal.Facts] [hReferenceIdeal : Cert.ReferenceIdeal.Facts] [hPre_finite_gate : Cert.Pre_finite_gate.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gate m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_v70) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_gate : Cert.Pre_finite_gate.Facts),
    quiescent_Kernel (hKernel := hKernel)
    ∧ quiescent_KernelIdeal (hKernelIdeal := hKernelIdeal)
    ∧ quiescent_KernelIdeal_pre_finite_gate (hKernelIdeal := hKernelIdeal) (hPre_finite_gate := hPre_finite_gate)
    ∧ quiescent_ReferenceIdeal (hReferenceIdeal := hReferenceIdeal)
    ∧ quiescent_ReferenceIdeal_pre_finite_gate (hReferenceIdeal := hReferenceIdeal) (hPre_finite_gate := hPre_finite_gate)
    ∧ preserves_Kernel_KernelIdeal
    ∧ algebraic_KernelIdeal_ReferenceIdeal_pre_finite_gate (hKernelIdeal := hKernelIdeal) (hReferenceIdeal := hReferenceIdeal) (hPre_finite_gate := hPre_finite_gate)
-- ==== Pre_finite_gate.lean ====
abbrev S8192x1024 : Shape := ⟨2, ![8192, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S_ : Shape := ⟨0, ![]⟩

class Facts : Prop where
  bcast_S_S8192x1024 : S_.BroadcastsInDim S8192x1024 (![] : Fin 0 → Fin S8192x1024.rank)
  bcast_S_S1024x1024 : S_.BroadcastsInDim S1024x1024 (![] : Fin 0 → Fin S1024x1024.rank)
  bcast_S_S1024 : S_.BroadcastsInDim S1024 (![] : Fin 0 → Fin S1024.rank)
  bcast_S_S16x1024 : S_.BroadcastsInDim S16x1024 (![] : Fin 0 → Fin S16x1024.rank)
  bcast_S_S16 : S_.BroadcastsInDim S16 (![] : Fin 0 → Fin S16.rank)

variable [Facts]

def fn {F : FTy → Type} [FloatOps F] (main_arg0 : FVec F S8192x1024 .f32) (main_arg1 : FVec F S1024x1024 .f32) (main_arg2 : FVec F S1024 .f32) (main_arg3 : FVec F S16x1024 .f32) (main_arg4 : FVec F S16 .f32) (main_arg5 : FVec F S16x1024 .f32) (main_arg6 : FVec F S16 .f32) : IVec S8192x1024 1 × IVec S1024x1024 1 × IVec S1024 1 × IVec S16x1024 1 × IVec S16 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_v3 : FVec F S1024x1024 .f32 := Host.absf main_arg1
  let main_cst_0 : FVec F S_ .f32 := constant S_ .f32 0x7F800000#32
  let main_v4 : FVec F S1024x1024 .f32 := broadcastInDim S1024x1024 ![] bcast_S_S1024x1024 main_cst_0
  let main_v5 : IVec S1024x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S16x1024 .f32 := Host.absf main_arg3
  let main_cst_2 : FVec F S_ .f32 := constant S_ .f32 0x7F800000#32
  let main_v10 : FVec F S16x1024 .f32 := broadcastInDim S16x1024 ![] bcast_S_S16x1024 main_cst_2
  let main_v11 : IVec S16x1024 1 := cmpf .olt main_v9 main_v10
  let main_v12 : FVec F S16 .f32 := Host.absf main_arg4
  let main_cst_3 : FVec F S_ .f32 := constant S_ .f32 0x7F800000#32
  let main_v13 : FVec F S16 .f32 := broadcastInDim S16 ![] bcast_S_S16 main_cst_3
  let main_v14 : IVec S16 1 := cmpf .olt main_v12 main_v13
  (main_v2, main_v5, main_v8, main_v11, main_v14)
-- ==== Kernel.lean ====
abbrev S8192x1024 : Shape := ⟨2, ![8192, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S8192 : Shape := ⟨1, ![8192]⟩
abbrev S1 : Shape := ⟨1, ![1]⟩
abbrev S8192x16 : Shape := ⟨2, ![8192, 16]⟩
abbrev S1024x16 : Shape := ⟨2, ![1024, 16]⟩
abbrev S16x512 : Shape := ⟨2, ![16, 512]⟩
abbrev S16x1 : Shape := ⟨2, ![16, 1]⟩
abbrev S512x1024 : Shape := ⟨2, ![512, 1024]⟩
abbrev S1x1024 : Shape := ⟨2, ![1, 1024]⟩
abbrev S512 : Shape := ⟨1, ![512]⟩
abbrev S1x512 : Shape := ⟨2, ![1, 512]⟩
abbrev S512x16 : Shape := ⟨2, ![512, 16]⟩
abbrev S1x16x1 : Shape := ⟨3, ![1, 16, 1]⟩
abbrev S1x1x1 : Shape := ⟨3, ![1, 1, 1]⟩

abbrev nBuf : Space → Nat
  | .hbm => 10
  | .vmem => 15
  | .smem => 1
  | _ => 0

abbrev bufTy : (tb : Table) → Fin (tcTables nBuf tb) → BufTy
  | .hbm, ⟨0, _⟩ => ⟨S8192x1024, .f32⟩
  | .hbm, ⟨1, _⟩ => ⟨S1024x1024, .f32⟩
  | .hbm, ⟨2, _⟩ => ⟨S1024, .f32⟩
  | .hbm, ⟨3, _⟩ => ⟨S16x1024, .f32⟩
  | .hbm, ⟨4, _⟩ => ⟨S16, .f32⟩
  | .hbm, ⟨5, _⟩ => ⟨S16x1024, .f32⟩
  | .hbm, ⟨6, _⟩ => ⟨S16, .f32⟩
  | .hbm, ⟨7, _⟩ => ⟨S8192, .f32⟩
  | .hbm, ⟨8, _⟩ => ⟨S1, .f32⟩
  | .hbm, ⟨9, _⟩ => ⟨S8192x16, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024, .f32⟩
  | .local _ .vmem, ⟨4, _⟩ => ⟨S16x1024, .f32⟩
  | .local _ .vmem, ⟨5, _⟩ => ⟨S16, .f32⟩
  | .local _ .vmem, ⟨6, _⟩ => ⟨S16x1024, .f32⟩
  | .local _ .vmem, ⟨7, _⟩ => ⟨S16, .f32⟩
  | .local _ .vmem, ⟨8, _⟩ => ⟨S1024, .f32⟩
  | .local _ .vmem, ⟨9, _⟩ => ⟨S1024, .f32⟩
  | .local _ .vmem, ⟨10, _⟩ => ⟨S1024x16, .f32⟩
  | .local _ .vmem, ⟨11, _⟩ => ⟨S1024x16, .f32⟩
  | .local _ .vmem, ⟨12, _⟩ => ⟨S1024x1024, .bf16⟩
  | .local _ .vmem, ⟨13, _⟩ => ⟨S16x512, .f32⟩
  | .local _ .vmem, ⟨14, _⟩ => ⟨S16x512, .f32⟩
  | .local _ .smem, ⟨0, _⟩ => ⟨S1, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_stg8_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v170 : BitVec 1 := Scalar.cmpi .eq arg0 c7_i32
  let v171 : BitVec 32 := Scalar.extui v170
  let c0_i32_67 : BitVec 32 := 0#32
  let v172 : BitVec 1 := Scalar.cmpi .ne v171 c0_i32_67
  v172

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .smem S1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1024x16 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== ReferenceIdeal.lean ====
abbrev S8192x1024 : Shape := ⟨2, ![8192, 1024]⟩
abbrev S1024x1024 : Shape := ⟨2, ![1024, 1024]⟩
abbrev S1024 : Shape := ⟨1, ![1024]⟩
abbrev S16x1024 : Shape := ⟨2, ![16, 1024]⟩
abbrev S16 : Shape := ⟨1, ![16]⟩
abbrev S1x1024 : Shape := ⟨2, ![1, 1024]⟩
abbrev S_ : Shape := ⟨0, ![]⟩
abbrev S1024x16 : Shape := ⟨2, ![1024, 16]⟩
abbrev S8192x16 : Shape := ⟨2, ![8192, 16]⟩
abbrev S1x16 : Shape := ⟨2, ![1, 16]⟩
abbrev S8192x2 : Shape := ⟨2, ![8192, 2]⟩
abbrev S8192 : Shape := ⟨1, ![8192]⟩
abbrev S8192x1 : Shape := ⟨2, ![8192, 1]⟩
abbrev S8192x2x1 : Shape := ⟨3, ![8192, 2, 1]⟩
abbrev S8192x2x2 : Shape := ⟨3, ![8192, 2, 2]⟩
abbrev S1 : Shape := ⟨1, ![1]⟩

abbrev nBuf : Space → Nat
  | .hbm => 141
  | .vmem => 0
  | .smem => 0
  | _ => 0

abbrev hbmTy0_0 (i : Nat) : BufTy := match i % 128 with
  | 0 => ⟨S8192x1024, .f32⟩
  | 1 => ⟨S1024x1024, .f32⟩
  | 2 => ⟨S1024, .f32⟩
  | 3 => ⟨S16x1024, .f32⟩
  | 4 => ⟨S16, .f32⟩
  | 5 => ⟨S16x1024, .f32⟩
  | 6 => ⟨S16, .f32⟩
  | 7 => ⟨S1024x1024, .f32⟩
  | 8 => ⟨S8192x1024, .f32⟩
  | 9 => ⟨S1x1024, .f32⟩
  | 10 => ⟨S8192x1024, .f32⟩
  | 11 => ⟨S8192x1024, .f32⟩
  | 12 => ⟨S_, .f32⟩
  | 13 => ⟨S8192x1024, .f32⟩
  | 14 => ⟨S8192x1024, .f32⟩
  | 15 => ⟨S1024x16, .f32⟩
  | 16 => ⟨S8192x16, .f32⟩
  | 17 => ⟨S1x16, .f32⟩
  | 18 => ⟨S8192x16, .f32⟩
  | 19 => ⟨S8192x16, .f32⟩
  | 20 => ⟨S8192x2, .f32⟩
  | 21 => ⟨S8192x2, .i32⟩
  | 22 => ⟨S8192, .i32⟩
  | 23 => ⟨S8192x1, .i32⟩
  | 24 => ⟨S_, .f32⟩
  | 25 => ⟨S8192x16, .f32⟩
  | 26 => ⟨S_, .i32⟩
  | 27 => ⟨S8192x1, .i32⟩
  | 28 => ⟨S8192x1, .i1⟩
  | 29 => ⟨S_, .i32⟩
  | 30 => ⟨S8192x1, .i32⟩
  | 31 => ⟨S8192x1, .i32⟩
  | 32 => ⟨S8192x1, .i32⟩
  | 33 => ⟨S_, .i32⟩
  | 34 => ⟨S8192x2, .i32⟩
  | 35 => ⟨S8192x2, .i1⟩
  | 36 => ⟨S_, .i32⟩
  | 37 => ⟨S8192x2, .i32⟩
  | 38 => ⟨S8192x2, .i32⟩
  | 39 => ⟨S8192x2, .i32⟩
  | 40 => ⟨S8192x2, .i32⟩
  | 41 => ⟨S8192x2x1, .i32⟩
  | 42 => ⟨S8192x2x1, .i32⟩
  | 43 => ⟨S8192x2x2, .i32⟩
  | 44 => ⟨S_, .f32⟩
  | 45 => ⟨S8192x2, .f32⟩
  | 46 => ⟨S8192x16, .f32⟩
  | 47 => ⟨S8192x16, .f32⟩
  | 48 => ⟨S_, .f32⟩
  | 49 => ⟨S8192, .f32⟩
  | 50 => ⟨S_, .f32⟩
  | 51 => ⟨S8192, .f32⟩
  | 52 => ⟨S8192, .f32⟩
  | 53 => ⟨S8192x1, .f32⟩
  | 54 => ⟨S8192x16, .f32⟩
  | 55 => ⟨S8192x16, .f32⟩
  | 56 => ⟨S8192x16, .f32⟩
  | 57 => ⟨S_, .f32⟩
  | 58 => ⟨S8192, .f32⟩
  | 59 => ⟨S8192x1, .f32⟩
  | 60 => ⟨S8192x16, .f32⟩
  | 61 => ⟨S8192x16, .f32⟩
  | 62 => ⟨S_, .f32⟩
  | 63 => ⟨S16, .f32⟩
  | 64 => ⟨S_, .f32⟩
  | 65 => ⟨S8192x16, .f32⟩
  | 66 => ⟨S8192x16, .i1⟩
  | 67 => ⟨S8192x16, .i32⟩
  | 68 => ⟨S_, .i32⟩
  | 69 => ⟨S16, .i32⟩
  | 70 => ⟨S_, .i32⟩
  | 71 => ⟨S_, .f32⟩
  | 72 => ⟨S_, .f32⟩
  | 73 => ⟨S1, .f32⟩
  | 74 => ⟨S_, .f32⟩
  | 75 => ⟨S1, .f32⟩
  | 76 => ⟨S1, .f32⟩
  | 77 => ⟨S16, .f32⟩
  | 78 => ⟨S16, .f32⟩
  | 79 => ⟨S16, .f32⟩
  | 80 => ⟨S_, .f32⟩
  | 81 => ⟨S_, .f32⟩
  | 82 => ⟨S_, .f32⟩
  | 83 => ⟨S_, .f32⟩
  | 84 => ⟨S_, .f32⟩
  | 85 => ⟨S_, .f32⟩
  | 86 => ⟨S_, .f32⟩
  | 87 => ⟨S_, .i1⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S_, .f32⟩
  | 96 => ⟨S_, .f32⟩
  | 97 => ⟨S_, .f32⟩
  | 98 => ⟨S_, .f32⟩
  | 99 => ⟨S16, .f32⟩
  | 100 => ⟨S_, .i32⟩
  | 101 => ⟨S_, .f32⟩
  | 102 => ⟨S_, .f32⟩
  | 103 => ⟨S1, .f32⟩
  | 104 => ⟨S_, .f32⟩
  | 105 => ⟨S1, .f32⟩
  | 106 => ⟨S1, .f32⟩
  | 107 => ⟨S16, .f32⟩
  | 108 => ⟨S16, .f32⟩
  | 109 => ⟨S16, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S_, .i1⟩
  | 118 => ⟨S_, .f32⟩
  | 119 => ⟨S_, .f32⟩
  | 120 => ⟨S_, .f32⟩
  | 121 => ⟨S_, .f32⟩
  | 122 => ⟨S_, .f32⟩
  | 123 => ⟨S_, .f32⟩
  | 124 => ⟨S_, .f32⟩
  | 125 => ⟨S_, .f32⟩
  | 126 => ⟨S_, .f32⟩
  | 127 => ⟨S_, .f32⟩
  | _ => ⟨S8192x1024, .f32⟩

abbrev hbmTy0_1 (i : Nat) : BufTy := match i % 128 with
  | 0 => ⟨S_, .f32⟩
  | 1 => ⟨S_, .f32⟩
  | 2 => ⟨S_, .f32⟩
  | 3 => ⟨S_, .f32⟩
  | 4 => ⟨S1024x16, .f32⟩
  | 5 => ⟨S8192x16, .f32⟩
  | 6 => ⟨S1x16, .f32⟩
  | 7 => ⟨S8192x16, .f32⟩
  | 8 => ⟨S8192x16, .f32⟩
  | 9 => ⟨S8192x16, .f32⟩
  | 10 => ⟨S_, .f32⟩
  | 11 => ⟨S8192, .f32⟩
  | 12 => ⟨S1, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_values : Ref sig .tc := ⟨.hbm, 20, rfl⟩
abbrev main_indices : Ref sig .tc := ⟨.hbm, 21, rfl⟩
abbrev main_v12 : Ref sig .tc := ⟨.hbm, 22, rfl⟩
abbrev main_v13 : Ref sig .tc := ⟨.hbm, 23, rfl⟩
abbrev main_cst_0 : Ref sig .tc := ⟨.hbm, 24, rfl⟩
abbrev main_v14 : Ref sig .tc := ⟨.hbm, 25, rfl⟩
abbrev main_c : Ref sig .tc := ⟨.hbm, 26, rfl⟩
abbrev main_v15 : Ref sig .tc := ⟨.hbm, 27, rfl⟩
abbrev main_v16 : Ref sig .tc := ⟨.hbm, 28, rfl⟩
abbrev main_c_1 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_c_2 : Ref sig .tc := ⟨.hbm, 33, rfl⟩
abbrev main_v20 : Ref sig .tc := ⟨.hbm, 34, rfl⟩
abbrev main_v21 : Ref sig .tc := ⟨.hbm, 35, rfl⟩
abbrev main_c_3 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_8 : Ref sig .tc := ⟨.hbm, 62, rfl⟩
abbrev main_v43 : Ref sig .tc := ⟨.hbm, 63, rfl⟩
abbrev main_cst_9 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_10 : Ref sig .tc := ⟨.hbm, 68, rfl⟩
abbrev main_v47 : Ref sig .tc := ⟨.hbm, 69, rfl⟩
abbrev main_c_11 : Ref sig .tc := ⟨.hbm, 70, rfl⟩
abbrev main_call0_cst : Ref sig .tc := ⟨.hbm, 71, rfl⟩
abbrev main_call0_v0 : Ref sig .tc := ⟨.hbm, 72, rfl⟩
abbrev main_call0_v1 : Ref sig .tc := ⟨.hbm, 73, rfl⟩
abbrev main_call0_cst_0 : Ref sig .tc := ⟨.hbm, 74, rfl⟩
abbrev main_call0_v2 : Ref sig .tc := ⟨.hbm, 75, rfl⟩
abbrev main_call0_v3 : Ref sig .tc := ⟨.hbm, 76, rfl⟩
abbrev main_call0_v4 : Ref sig .tc := ⟨.hbm, 77, rfl⟩
abbrev main_call0_v5 : Ref sig .tc := ⟨.hbm, 78, rfl⟩
abbrev main_call0_v6 : Ref sig .tc := ⟨.hbm, 79, rfl⟩
abbrev main_call0_v7 : Ref sig .tc := ⟨.hbm, 80, rfl⟩
abbrev main_call0_cst_1 : Ref sig .tc := ⟨.hbm, 81, rfl⟩
abbrev main_call0_v8 : Ref sig .tc := ⟨.hbm, 82, rfl⟩
abbrev main_call0_cst_2 : Ref sig .tc := ⟨.hbm, 83, rfl⟩
abbrev main_call0_v9 : Ref sig .tc := ⟨.hbm, 84, rfl⟩
abbrev main_call0_v10 : Ref sig .tc := ⟨.hbm, 85, rfl⟩
abbrev main_call0_cst_3 : Ref sig .tc := ⟨.hbm, 86, rfl⟩
abbrev main_call0_v11 : Ref sig .tc := ⟨.hbm, 87, rfl⟩
abbrev main_call0_cst_4 : Ref sig .tc := ⟨.hbm, 88, rfl⟩
abbrev main_call0_call0_v0 : Ref sig .tc := ⟨.hbm, 89, rfl⟩
abbrev main_v48 : Ref sig .tc := ⟨.hbm, 90, rfl⟩
abbrev main_cst_12 : Ref sig .tc := ⟨.hbm, 91, rfl⟩
abbrev main_v49 : Ref sig .tc := ⟨.hbm, 92, rfl⟩
abbrev main_cst_13 : Ref sig .tc := ⟨.hbm, 93, rfl⟩
abbrev main_v50 : Ref sig .tc := ⟨.hbm, 94, rfl⟩
abbrev main_v51 : Ref sig .tc := ⟨.hbm, 95, rfl⟩
abbrev main_cst_14 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_c_15 : Ref sig .tc := ⟨.hbm, 100, rfl⟩
abbrev main_call1_cst : Ref sig .tc := ⟨.hbm, 101, rfl⟩
abbrev main_call1_v0 : Ref sig .tc := ⟨.hbm, 102, rfl⟩
abbrev main_call1_v1 : Ref sig .tc := ⟨.hbm, 103, rfl⟩
abbrev main_call1_cst_0 : Ref sig .tc := ⟨.hbm, 104, rfl⟩
abbrev main_call1_v2 : Ref sig .tc := ⟨.hbm, 105, rfl⟩
abbrev main_call1_v3 : Ref sig .tc := ⟨.hbm, 106, rfl⟩
abbrev main_call1_v4 : Ref sig .tc := ⟨.hbm, 107, rfl⟩
abbrev main_call1_v5 : Ref sig .tc := ⟨.hbm, 108, rfl⟩
abbrev main_call1_v6 : Ref sig .tc := ⟨.hbm, 109, rfl⟩
abbrev main_call1_v7 : Ref sig .tc := ⟨.hbm, 110, rfl⟩
abbrev main_call1_cst_1 : Ref sig .tc := ⟨.hbm, 111, rfl⟩
abbrev main_call1_v8 : Ref sig .tc := ⟨.hbm, 112, rfl⟩
abbrev main_call1_cst_2 : Ref sig .tc := ⟨.hbm, 113, rfl⟩
abbrev main_call1_v9 : Ref sig .tc := ⟨.hbm, 114, rfl⟩
abbrev main_call1_v10 : Ref sig .tc := ⟨.hbm, 115, rfl⟩
abbrev main_call1_cst_3 : Ref sig .tc := ⟨.hbm, 116, rfl⟩
abbrev main_call1_v11 : Ref sig .tc := ⟨.hbm, 117, rfl⟩
abbrev main_call1_cst_4 : Ref sig .tc := ⟨.hbm, 118, rfl⟩
abbrev main_call1_call0_v0 : Ref sig .tc := ⟨.hbm, 119, rfl⟩
abbrev main_v55 : Ref sig .tc := ⟨.hbm, 120, rfl⟩
abbrev main_cst_16 : Ref sig .tc := ⟨.hbm, 121, rfl⟩
abbrev main_v56 : Ref sig .tc := ⟨.hbm, 122, rfl⟩
abbrev main_cst_17 : Ref sig .tc := ⟨.hbm, 123, rfl⟩
abbrev main_v57 : Ref sig .tc := ⟨.hbm, 124, rfl⟩
abbrev main_v58 : Ref sig .tc := ⟨.hbm, 125, rfl⟩
abbrev main_cst_18 : Ref sig .tc := ⟨.hbm, 126, rfl⟩
abbrev main_v59 : Ref sig .tc := ⟨.hbm, 127, rfl⟩
abbrev main_v60 : Ref sig .tc := ⟨.hbm, 128, rfl⟩
abbrev main_v61 : Ref sig .tc := ⟨.hbm, 129, rfl⟩
abbrev main_cst_19 : Ref sig .tc := ⟨.hbm, 130, rfl⟩
abbrev main_v62 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_v68 : Ref sig .tc := ⟨.hbm, 137, rfl⟩
abbrev main_cst_20 : Ref sig .tc := ⟨.hbm, 138, rfl⟩
abbrev main_v69 : Ref sig .tc := ⟨.hbm, 139, rfl⟩
abbrev main_v70 : Ref sig .tc := ⟨.hbm, 140, rfl⟩

abbrev nD : Nat := 1
abbrev τ : Topo := Topo.v7x

variable {F : FTy → Type} [FloatOps F]
-- ==== Proof.Router.lean ====
/-
  The row mathematics of the gating, with no program in it. A row of sixteen scores `s` picks two experts, the greatest score
  and the greatest of the rest, the lower position first among equals (`Top2`). `gate s a b` is the softmax of the scores
  masked to those two. The kernel finds the two by a maximum and the first position that attains it, twice, with the first pick
  overwritten by the least value (`picks_first`, `picks_second`), and writes the softmax's denominator as two exponentials and
  fourteen equal ones; the reference takes the first two positions of a stable sort (`top2_sorted`), multiplies by the mask and
  sums all sixteen exponentials (`softmax_masked`).
-/
module

public import Idealize.ShloMosaic.PureOps.Ideal
public import Idealize.ShloMosaic.PureOps.Ideal.Laws
public import Idealize.ShloMosaic.PureOps.Reduce
public import Idealize.ShloMosaic.Lib.SortNet.Extract
public import Idealize.ShloMosaic.Lib.PlanTiles.StableSort
public import Idealize.ShloMosaic.Lib.Pointwise

@[expose] public section

set_option maxRecDepth 16384

noncomputable section

namespace Cert.Router

open Idealize.ShloMosaic

/-- The two picks of a row of scores: `a` is the first position of the greatest score, `b` the first position of the greatest of the rest. -/
structure Top2 (s : Fin 16 → EReal) (a b : Fin 16) : Prop where
  max1 : ∀ e, s e ≤ s a
  first1 : ∀ e, s e = s a → a ≤ e
  ne : b ≠ a
  max2 : ∀ e, e ≠ a → s e ≤ s b
  first2 : ∀ e, e ≠ a → s e = s b → b ≤ e

/-- The denominator of the masked softmax: the two picks' exponentials and fourteen of the masked zeros. -/
def denom (s : Fin 16 → EReal) (a b : Fin 16) : EReal :=
  Ideal.exp (s a - max (s a) 0) + Ideal.exp (s b - max (s a) 0) + 14 * Ideal.exp (0 - max (s a) 0)

/-- The masked softmax of a row of scores with picks `a` and `b`. -/
def gate (s : Fin 16 → EReal) (a b : Fin 16) (e : Fin 16) : EReal :=
  Ideal.div (if e = a ∨ e = b then Ideal.exp (s e - max (s a) 0) else Ideal.exp (0 - max (s a) 0)) (denom s a b)

/-- The pattern of negative infinity denotes the least value. -/
theorem ofBits_neg_inf : Ideal.ofBits .f32 0xFF800000#32 = ⊥ := by simp [Ideal.ofBits, Ideal.ieee]

/-- The pattern of positive infinity denotes the greatest value. -/
theorem ofBits_pos_inf : Ideal.ofBits .f32 0x7F800000#32 = ⊤ := by simp [Ideal.ofBits, Ideal.ieee]

/-- The literal 14.0 denotes fourteen. -/
theorem ofBits_fourteen : Ideal.ofBits .f32 0x41600000#32 = 14 := by
  have h : Ideal.ofBits .f32 0x41600000#32 = ((14 : ℝ) : EReal) := by
    simp [Ideal.ofBits, Ideal.ieee, -EReal.coe_mul]; norm_num
  rw [h]; rfl

/-- A fold of maxima over a row from a start no greater than its greatest entry is that entry. -/
theorem fold_max_eq (s : Fin 16 → EReal) (z : EReal) (a : Fin 16) (h : ∀ e, s e ≤ s a) (hz : z ≤ s a) :
    Finset.univ.fold max z s = s a :=
  le_antisymm ((Finset.fold_max_le _).2 ⟨hz, fun e _ => h e⟩) ((Finset.le_fold_max _).2 (Or.inr ⟨a, Finset.mem_univ _, le_rfl⟩))

/-- A position below sixteen as a signed word. -/
theorem toInt_pos (e : Fin 16) : (BitVec.ofNat 32 e.val).toInt = (e.val : Int) := by
  fin_cases e <;> rfl

/-- Positions below sixteen are equal when their words are. -/
theorem pos_inj {e f : Fin 16} (h : BitVec.ofNat 32 e.val = BitVec.ofNat 32 f.val) : e = f := by
  have := congrArg BitVec.toInt h
  rw [toInt_pos, toInt_pos] at this
  exact Fin.ext (by exact_mod_cast this)

/-- The signed minimum over the positions that satisfy `p`, sixteen standing for the others, is the first such position. -/
theorem fold_minsi_first (p : Fin 16 → Prop) [DecidablePred p] (a : Fin 16) (ha : p a) (hmin : ∀ e, p e → a ≤ e) :
    Finset.univ.fold IntOp.minsi (2147483647#32) (fun e : Fin 16 => if p e then BitVec.ofNat 32 e.val else 16#32) = BitVec.ofNat 32 a.val := by
  apply BitVec.toInt_inj.1
  rw [← Finset.fold_hom (op := IntOp.minsi) (op' := min) (m := BitVec.toInt) (fun x y => SortNet.toInt_minsi x y), toInt_pos]
  have hal : (a.val : Int) < 16 := by exact_mod_cast a.isLt
  have hf : ∀ e : Fin 16, (if p e then BitVec.ofNat 32 e.val else 16#32).toInt = if p e then (e.val : Int) else 16 := by
    intro e; split
    · exact toInt_pos e
    · rfl
  simp only [hf]
  refine le_antisymm ((Finset.fold_min_le _).2 (Or.inr ⟨a, Finset.mem_univ _, ?_⟩)) ((Finset.le_fold_min _).2 ⟨?_, fun e _ => ?_⟩)
  · rw [if_pos ha]
  · show (a.val : Int) ≤ 2147483647
    omega
  · split
    · rename_i h; exact_mod_cast hmin e h
    · omega

/-- The kernel's first pick: the signed minimum of the positions at which the score equals the row's maximum. -/
theorem picks_first (s : Fin 16 → EReal) {a b : Fin 16} (h : Top2 s a b) :
    Finset.univ.fold IntOp.minsi (2147483647#32) (fun e : Fin 16 => if s e = s a then BitVec.ofNat 32 e.val else 16#32) = BitVec.ofNat 32 a.val :=
  fold_minsi_first (fun e => s e = s a) a rfl h.first1

/-- The greatest of the scores with the first pick overwritten by the least value. -/
theorem fold_max_rest (s : Fin 16 → EReal) {a b : Fin 16} (h : Top2 s a b) :
    Finset.univ.fold max ⊥ (fun e => if e = a then ⊥ else s e) = s b := by
  have := fold_max_eq (fun e => if e = a then ⊥ else s e) ⊥ b (fun e => by
    simp only [if_neg h.ne]
    split
    · exact bot_le
    · rename_i he; exact h.max2 e he) bot_le
  simpa only [if_neg h.ne] using this

/-- The kernel's second pick: the same minimum over the scores with the first pick overwritten by the least value. The second score must not be the
    least value itself, or the overwritten position would be found again. -/
theorem picks_second (s : Fin 16 → EReal) {a b : Fin 16} (h : Top2 s a b) (hb : s b ≠ ⊥) :
    Finset.univ.fold IntOp.minsi (2147483647#32)
      (fun e : Fin 16 => if (if e = a then ⊥ else s e) = s b then BitVec.ofNat 32 e.val else 16#32) = BitVec.ofNat 32 b.val := by
  refine fold_minsi_first (fun e => (if e = a then ⊥ else s e) = s b) b (if_neg h.ne) fun e he => ?_
  by_cases hea : e = a
  · rw [if_pos hea] at he; exact absurd he.symm hb
  · rw [if_neg hea] at he; exact h.first2 e hea he

/-- The sum of the sixteen exponentials of the masked row is the denominator. -/
theorem sum_masked (x y z : EReal) {a b : Fin 16} (h : b ≠ a) :
    ∑ e : Fin 16, (if e = a then x else if e = b then y else z) = x + y + 14 * z := by
  rw [← Finset.add_sum_erase _ _ (Finset.mem_univ a), if_pos rfl,
    ← Finset.add_sum_erase _ _ (Finset.mem_erase.2 ⟨h, Finset.mem_univ b⟩), if_neg h, if_pos rfl, ← add_assoc]
  congr 1
  rw [Finset.sum_congr rfl (g := fun _ => z) fun e he => by
    rw [if_neg (Finset.mem_erase.1 (Finset.mem_erase.1 he).2).1, if_neg (Finset.mem_erase.1 he).1]]
  rw [Finset.sum_const, Finset.card_erase_of_mem (Finset.mem_erase.2 ⟨h, Finset.mem_univ b⟩), Finset.card_erase_of_mem (Finset.mem_univ a),
    Finset.card_univ, Fintype.card_fin, EReal.nsmul_eq_mul]
  rfl

/-- The masked row, entry by entry. -/
theorem masked_apply (s : Fin 16 → EReal) (a b e : Fin 16) :
    s e * (if e = a ∨ e = b then 1 else 0) = if e = a then s a else if e = b then s b else 0 := by
  by_cases ha : e = a
  · subst ha; simp
  · by_cases hb : e = b
    · subst hb; simp [ha]
    · simp [ha, hb]

/-- The greatest entry of the masked row is the greatest score or a masked zero. -/
theorem fold_max_masked (s : Fin 16 → EReal) {a b : Fin 16} (h : Top2 s a b) :
    Finset.univ.fold max ⊥ (fun e => s e * (if e = a ∨ e = b then 1 else 0)) = max (s a) 0 := by
  simp only [masked_apply]
  refine le_antisymm ((Finset.fold_max_le _).2 ⟨bot_le, fun e _ => ?_⟩) ((Finset.le_fold_max _).2 (Or.inr ?_))
  · split
    · exact le_max_left _ _
    · split
      · exact (h.max1 b).trans (le_max_left _ _)
      · exact le_max_right _ _
  · rcases le_total 0 (s a) with h0 | h0
    · exact ⟨a, Finset.mem_univ _, by rw [if_pos rfl, max_eq_left h0]⟩
    · obtain ⟨e, hea, heb⟩ : ∃ e : Fin 16, e ≠ a ∧ e ≠ b :=
        (by decide : ∀ a b : Fin 16, ∃ e : Fin 16, e ≠ a ∧ e ≠ b) a b
      exact ⟨e, Finset.mem_univ _, by rw [if_neg hea, if_neg heb, max_eq_right h0]⟩

/-- The reference's softmax of the masked row is the gate. -/
theorem softmax_masked (s : Fin 16 → EReal) {a b : Fin 16} (h : Top2 s a b) (e : Fin 16) :
    Ideal.div (Ideal.exp (s e * (if e = a ∨ e = b then 1 else 0) - max (s a) 0))
        (∑ k : Fin 16, Ideal.exp (s k * (if k = a ∨ k = b then 1 else 0) - max (s a) 0)) = gate s a b e := by
  have hd : ∑ k : Fin 16, Ideal.exp (s k * (if k = a ∨ k = b then 1 else 0) - max (s a) 0) = denom s a b := by
    unfold denom
    rw [← sum_masked _ _ _ h.ne]
    refine Finset.sum_congr rfl fun k _ => ?_
    rw [masked_apply]
    split
    · rfl
    · split <;> rfl
  rw [hd]
  unfold gate
  by_cases he : e = a ∨ e = b
  · rw [if_pos he, if_pos he, mul_one]
  · rw [if_neg he, if_neg he, mul_zero]

/-- How many scores of the row are below the one at `e`: a natural number that orders the positions as their scores do. -/
def rank (s : Fin 16 → EReal) (e : Fin 16) : ℕ := (Finset.univ.filter fun k => s k < s e).card

/-- The ranks order the positions as the scores do. -/
theorem rank_lt_iff (s : Fin 16 → EReal) (e f : Fin 16) : rank s e < rank s f ↔ s e < s f := by
  have mono : ∀ e f, s e ≤ s f → rank s e ≤ rank s f := fun e f h =>
    Finset.card_le_card fun k hk => by
      rw [Finset.mem_filter] at hk ⊢; exact ⟨hk.1, hk.2.trans_le h⟩
  constructor
  · intro h
    by_contra hn
    exact absurd (mono f e (not_lt.1 hn)) (not_le.2 h)
  · intro h
    refine Finset.card_lt_card ⟨fun k hk => ?_, fun hs => ?_⟩
    · rw [Finset.mem_filter] at hk ⊢; exact ⟨hk.1, hk.2.trans h⟩
    · have := hs (Finset.mem_filter.2 ⟨Finset.mem_univ e, h⟩)
      exact lt_irrefl _ (Finset.mem_filter.1 this).2

/-- The stable sort of positions by descending rank: of two places the earlier holds the greater rank, or equal ranks in the order of the positions. -/
theorem sortedFrom_lex {n : ℕ} (G : Fin n → ℕ) (i j : Fin n) (hij : i < j) :
    PlanTiles.Lex G (fun x y : Fin n => x < y) (sortedFrom (fun x y => decide (G y < G x)) i) (sortedFrom (fun x y => decide (G y < G x)) j) := by
  have hp : ∀ a b : Fin (sortPositions n fun x y => decide (G y < G x)).length, a < b →
      PlanTiles.Lex G (fun x y : Fin n => x < y) ((sortPositions n fun x y => decide (G y < G x)).get a) ((sortPositions n fun x y => decide (G y < G x)).get b) :=
    List.pairwise_iff_get.mp (PlanTiles.pairwise_stableSort_lex G (fun x y : Fin n => x < y) (List.finRange n) (List.pairwise_lt_finRange n))
  unfold sortedFrom
  exact hp _ _ (by simp only [Fin.lt_def, Fin.val_cast]; exact hij)

/-- The first two positions of the stable sort by descending score are the two picks. -/
theorem top2_sorted (s : Fin 16 → EReal) :
    Top2 s (sortedFrom (fun k k' => Ideal.cmpTotal .gt (s k) (s k') == 1#1) 0) (sortedFrom (fun k k' => Ideal.cmpTotal .gt (s k) (s k') == 1#1) 1) := by
  have hB : (fun k k' : Fin 16 => Ideal.cmpTotal .gt (s k) (s k') == 1#1) = fun k k' => decide (rank s k' < rank s k) := by
    funext k k'
    rw [decide_eq_decide.2 (rank_lt_iff s k' k)]
    show (BitVec.ofBool (decide (s k' < s k)) == 1#1) = _
    cases decide (s k' < s k) <;> rfl
  rw [hB]
  set B : Fin 16 → Fin 16 → Bool := fun k k' => decide (rank s k' < rank s k) with hBdef
  have hlex : ∀ i j : Fin 16, i < j → s (sortedFrom B j) < s (sortedFrom B i) ∨ (s (sortedFrom B i) = s (sortedFrom B j) ∧ sortedFrom B i < sortedFrom B j) := by
    intro i j hij
    have h1 : PlanTiles.Lex (rank s) (fun x y : Fin 16 => x < y) (sortedFrom B i) (sortedFrom B j) := sortedFrom_lex (rank s) i j hij
    rcases h1 with h1 | ⟨h1, h2⟩
    · exact Or.inl ((rank_lt_iff s _ _).1 h1)
    · refine Or.inr ⟨?_, h2⟩
      refine le_antisymm (not_lt.1 fun h => ?_) (not_lt.1 fun h => ?_)
      · have := (rank_lt_iff s _ _).2 h; omega
      · have := (rank_lt_iff s _ _).2 h; omega
  have hsurj := sortedFrom_surjective B
  have hinj := sortedFrom_injective B
  refine ⟨fun e => ?_, fun e he => ?_, fun h => ?_, fun e hea => ?_, fun e hea he => ?_⟩
  · obtain ⟨j, rfl⟩ := hsurj e
    rcases (Fin.zero_le j).eq_or_lt with h | h
    · rw [← h]
    · rcases hlex _ _ h with h1 | h1
      · exact h1.le
      · exact h1.1.ge
  · obtain ⟨j, rfl⟩ := hsurj e
    rcases (Fin.zero_le j).eq_or_lt with h | h
    · rw [← h]
    · rcases hlex _ _ h with h1 | h1
      · exact absurd he h1.ne
      · exact h1.2.le
  · exact absurd (hinj h) (by decide)
  · obtain ⟨j, rfl⟩ := hsurj e
    have h0 : j ≠ 0 := fun h => hea (by rw [h])
    rcases (show (1 : Fin 16) ≤ j from Fin.one_le_of_ne_zero h0).eq_or_lt with h | h
    · rw [← h]
    · rcases hlex _ _ h with h1 | h1
      · exact h1.le
      · exact h1.1.ge
  · obtain ⟨j, rfl⟩ := hsurj e
    have h0 : j ≠ 0 := fun h => hea (by rw [h])
    rcases (show (1 : Fin 16) ≤ j from Fin.one_le_of_ne_zero h0).eq_or_lt with h | h
    · rw [← h]
    · rcases hlex _ _ h with h1 | h1
      · exact absurd he h1.ne
      · exact h1.2.le

/-- Every row has its two picks. -/
theorem exists_top2 (s : Fin 16 → EReal) : ∃ a b, Top2 s a b := ⟨_, _, top2_sorted s⟩

/-- The first pick of a row: the position sorted first. -/
def pick1 (s : Fin 16 → EReal) : Fin 16 := sortedFrom (fun k k' => Ideal.cmpTotal .gt (s k) (s k') == 1#1) 0
/-- The second pick of a row: the position sorted second. -/
def pick2 (s : Fin 16 → EReal) : Fin 16 := sortedFrom (fun k k' => Ideal.cmpTotal .gt (s k) (s k') == 1#1) 1

/-- They are the greatest score and the greatest of the rest. -/
theorem top2_picks (s : Fin 16 → EReal) : Top2 s (pick1 s) (pick2 s) := top2_sorted s

/-- The gate of expert `e` in a row of scores `s`. -/
def rowGate (s : Fin 16 → EReal) (e : Fin 16) : EReal := gate s (pick1 s) (pick2 s) e

/-- The score of expert `e` on a row `x`: the gating network's two layers. -/
def score (w : Fin 1024 → Fin 1024 → EReal) (b : Fin 1024 → EReal) (wo : Fin 16 → Fin 1024 → EReal) (bo : Fin 16 → EReal)
    (x : Fin 1024 → EReal) (e : Fin 16) : EReal :=
  ∑ k, wo e k * max (∑ j, x j * w k j + b k) 0 + bo e

/-- The output of expert `e` on a row `x`: its affine form. -/
def expert (co : Fin 16 → Fin 1024 → EReal) (io : Fin 16 → EReal) (x : Fin 1024 → EReal) (e : Fin 16) : EReal :=
  ∑ k, co e k * x k + io e

/-- The squared coefficient of variation of a total per expert, with the deviation's mean over one less than the experts and
    the denominator held off zero by the literal both programs write. -/
def dispersion (v : Fin 16 → EReal) : EReal :=
  Ideal.div
    (Ideal.div (∑ e, (v e - Ideal.div (∑ e, v e) (Ideal.ofBits .f32 0x41800000#32)) * (v e - Ideal.div (∑ e, v e) (Ideal.ofBits .f32 0x41800000#32)))
      (Ideal.ofBits .f32 0x41700000#32))
    (Ideal.div (∑ e, v e) (Ideal.ofBits .f32 0x41800000#32) * Ideal.div (∑ e, v e) (Ideal.ofBits .f32 0x41800000#32)
      + Ideal.ofBits .f32 0x2EDBE6FF#32)

/-- The balancing loss of the totals of the gates and of the loads. -/
def loss (imp load : Fin 16 → EReal) : EReal := (dispersion imp + dispersion load) * Ideal.ofBits .f32 0x3C23D70A#32
/-- Whether a gate is positive, as the number it adds to its expert's load. -/
def positive (x : EReal) : EReal := if 0 < x then 1 else 0
/-- An expert's importance: its gates summed over the rows, whose scores are `s`. -/
def importance (s : Fin 8192 → Fin 16 → EReal) (e : Fin 16) : EReal := ∑ r, rowGate (s r) e
/-- An expert's load: the number of rows, whose scores are `s`, on which its gate is positive. -/
def load (s : Fin 8192 → Fin 16 → EReal) (e : Fin 16) : EReal := ∑ r, positive (rowGate (s r) e)

/-- A value that is neither infinity. -/
def Fin' (x : EReal) : Prop := x ≠ ⊥ ∧ x ≠ ⊤

/-- A value that is neither infinity is a real number. -/
theorem Fin'.exists_real {x : EReal} (h : Fin' x) : ∃ r : ℝ, x = r := ⟨x.toReal, (EReal.coe_toReal h.2 h.1).symm⟩

/-- A real number is neither infinity. -/
theorem fin_coe (r : ℝ) : Fin' (r : EReal) := ⟨EReal.coe_ne_bot r, EReal.coe_ne_top r⟩

/-- Sums of real numbers are real numbers. -/
theorem Fin'.add {x y : EReal} (hx : Fin' x) (hy : Fin' y) : Fin' (x + y) := by
  obtain ⟨a, rfl⟩ := hx.exists_real; obtain ⟨b, rfl⟩ := hy.exists_real
  exact fin_coe (a + b)

/-- Products of real numbers are real numbers. -/
theorem Fin'.mul {x y : EReal} (hx : Fin' x) (hy : Fin' y) : Fin' (x * y) := by
  obtain ⟨a, rfl⟩ := hx.exists_real; obtain ⟨b, rfl⟩ := hy.exists_real
  rw [← EReal.coe_mul]; exact fin_coe (a * b)

/-- The greater of two real numbers is a real number. -/
theorem Fin'.max {x y : EReal} (hx : Fin' x) (hy : Fin' y) : Fin' (max x y) := by
  rcases max_choice x y with h | h <;> rw [h] <;> assumption

/-- A sum of finitely many real numbers is a real number. -/
theorem fin_sum {ι : Type} (S : Finset ι) (f : ι → EReal) (h : ∀ i, Fin' (f i)) : Fin' (∑ i ∈ S, f i) := by
  classical
  induction S using Finset.induction_on with
  | empty => exact fin_coe 0
  | insert i S hi ih => rw [Finset.sum_insert hi]; exact (h i).add ih

/-- A value whose magnitude is below infinity is a real number. -/
theorem fin_of_abs_lt {x : EReal} (h : max x (-x) < ⊤) : Fin' x := by
  obtain ⟨h1, h2⟩ := max_lt_iff.mp h
  exact ⟨fun hx => by rw [hx] at h2; exact absurd h2 (by simp), h1.ne⟩

/-- The scores of a row of real numbers, with real weights and offsets, are real numbers. -/
theorem score_fin {w : Fin 1024 → Fin 1024 → EReal} {b : Fin 1024 → EReal} {wo : Fin 16 → Fin 1024 → EReal} {bo : Fin 16 → EReal}
    {x : Fin 1024 → EReal} (hw : ∀ k j, Fin' (w k j)) (hb : ∀ k, Fin' (b k)) (hwo : ∀ e k, Fin' (wo e k)) (hbo : ∀ e, Fin' (bo e))
    (hx : ∀ j, Fin' (x j)) (e : Fin 16) : Fin' (score w b wo bo x e) :=
  (fin_sum _ _ fun k => (hwo e k).mul (((fin_sum _ _ fun j => (hx j).mul (hw k j)).add (hb k)).max (fin_coe 0))).add (hbo e)

end Cert.Router

end
-- ==== Proof.KernelPay.lean ====
/-
  The kernel's arithmetic on one half of a block (512 rows), read at an index. `halfGates` is the tile of gates the body
  computes from the half's rows, `halfEo` the tile of the experts' outputs; entry `(e, l)` of the first is the gate of expert
  `e` on row `l` (`halfGates_apply`), of the second the expert's affine form on that row. The body spells the second half's
  arithmetic with its own names; each is the first half's (`second_*`).
-/
module

public import proofs.«01_k».proof.Proof.Gen.KernelIdeal.Skeleton
public import proofs.«01_k».proof.Proof.Router
public import Idealize.ShloMosaic.Lib.Pointwise

@[expose] public section
set_option maxRecDepth 16384
noncomputable section
namespace Cert.KernelIdeal.Router
open Idealize.ShloMosaic Idealize.SL.Sem Cert.KernelIdeal Cert.KernelIdeal.Gen Cert.Router

/-- The positions the body numbers the experts with. -/
def positions : IVec S16x512 32 := iota .tc S16x512 32 [0] iota_S16x512_d0_w32

/-- The gates of one half, from its rows `x`. -/
def halfGates (wo : Vec Ideal S16x1024 .f32) (bo : Vec Ideal S16 .f32) (x : Vec Ideal S512x1024 .f32) (w : Vec Ideal S1024x1024 .bf16)
    (b : Vec Ideal S1024 .f32) : FVec Ideal S16x512 .f32 :=
  k0_pay14 (k0_pay11 wo bo x w b) positions (k0_pay12 wo bo x w b) (k0_pay13 wo bo x w b) (Scalar.ofBits .f32 0xFF800000#32)

section second
variable (wo co : Vec Ideal S16x1024 .f32) (bo io : Vec Ideal S16 .f32) (x : Vec Ideal S512x1024 .f32) (w : Vec Ideal S1024x1024 .bf16)
    (b : Vec Ideal S1024 .f32)

/-- The second half's scores are the first half's arithmetic. -/
theorem second_scores : k0_pay21 wo (k0_pay7 bo) x w b = k0_pay11 wo bo x w b := rfl
/-- So are its experts' outputs. -/
theorem second_eo : k0_pay20 (k0_pay6 co) (k0_pay8 io) x = k0_pay10 co io x := rfl
/-- So are its gates. -/
theorem second_gates : k0_pay26 (k0_pay21 wo (k0_pay7 bo) x w b) positions (k0_pay22 wo (k0_pay7 bo) x w b) (k0_pay23 wo (k0_pay7 bo) x w b)
    (k0_pay24 wo (k0_pay7 bo) x w b) (k0_pay25 wo (k0_pay7 bo) x w b) = halfGates wo bo x w b := rfl
end second

/-- A comparison's bit, as a condition on the compared words. -/
theorem select_eq {α : Type} (p : Prop) [Decidable p] (x y : α) : Scalar.select (BitVec.ofBool (decide p)) x y = if p then x else y := by
  by_cases h : p <;> simp [h, Scalar.select]

/-- Two comparisons' bits joined. -/
theorem ori_decide (p q : Prop) [Decidable p] [Decidable q] :
    IntOp.ori (BitVec.ofBool (decide p)) (BitVec.ofBool (decide q)) = BitVec.ofBool (decide (p ∨ q)) := by
  by_cases hp : p <;> by_cases hq : q <;> simp [hp, hq, IntOp.ori]

/-- Two experts' positions are the same word when the experts are the same. -/
theorem cmpi_pos (e f : Fin 16) : IntOp.cmpi .eq (BitVec.ofNat 32 e.val) (BitVec.ofNat 32 f.val) = BitVec.ofBool (decide (e = f)) := by
  by_cases he : e = f
  · subst he; simp [IntOp.cmpi]
  · simp [IntOp.cmpi, he, beq_eq_false_iff_ne.mpr fun hh => he (pos_inj hh)]

/-- Entry `(e, l)` of the positions is `e`. -/
theorem positions_apply (e : Fin 16) (l : Fin 512) : positions (ix2 e l) = BitVec.ofNat 32 e.val := by
  pointwise [positions]

/-- The scores of row `l`. -/
theorem pay11_apply (wo : Vec Ideal S16x1024 .f32) (bo : Vec Ideal S16 .f32) (x : Vec Ideal S512x1024 .f32) (w : Vec Ideal S1024x1024 .bf16)
    (b : Vec Ideal S1024 .f32) (e : Fin 16) (l : Fin 512) :
    k0_pay11 wo bo x w b (ix2 e l) =
      score (fun k j => w (ix2 k j)) (fun k => b (ix1 k)) (fun e k => wo (ix2 e k)) (fun e => bo (ix1 e)) (fun j => x (ix2 l j)) e := by
  pointwise [k0_pay11, k0_pay7, k0_pay9]
  rfl

/-- The greatest score of row `l`. -/
theorem pay12_apply (wo : Vec Ideal S16x1024 .f32) (bo : Vec Ideal S16 .f32) (x : Vec Ideal S512x1024 .f32) (w : Vec Ideal S1024x1024 .bf16)
    (b : Vec Ideal S1024 .f32) (l : Fin 512) {a a' : Fin 16} (h : Top2 (fun e => k0_pay11 wo bo x w b (ix2 e l)) a a') (z : Fin 1) :
    k0_pay12 wo bo x w b (ix2 z l) = k0_pay11 wo bo x w b (ix2 a l) := by
  pointwise [k0_pay12]
  rw [ofBits_neg_inf]
  exact fold_max_eq (fun e => k0_pay11 wo bo x w b (ix2 e l)) ⊥ a h.max1 bot_le

/-- The first pick of row `l`, as a bit on each expert. -/
theorem pay13_apply (wo : Vec Ideal S16x1024 .f32) (bo : Vec Ideal S16 .f32) (x : Vec Ideal S512x1024 .f32) (w : Vec Ideal S1024x1024 .bf16)
    (b : Vec Ideal S1024 .f32) (l : Fin 512) {a a' : Fin 16} (h : Top2 (fun e => k0_pay11 wo bo x w b (ix2 e l)) a a') (e : Fin 16) :
    k0_pay13 wo bo x w b (ix2 e l) = BitVec.ofBool (decide (e = a)) := by
  pointwise [k0_pay13, k0_pay12]
  rw [ofBits_neg_inf, fold_max_eq (fun e => k0_pay11 wo bo x w b (ix2 e l)) ⊥ a h.max1 bot_le,
    picks_first (fun e => k0_pay11 wo bo x w b (ix2 e l)) h]
  exact cmpi_pos e a

/-- The gates' tail on any scores, positions, greatest scores and first picks of the expected values. -/
theorem pay14_apply (v25 : FVec Ideal S16x512 .f32) (v26 : IVec S16x512 32) (v28 : FVec Ideal S1x512 .f32) (v36 : IVec S16x512 1)
    (l : Fin 512) {a b : Fin 16} (h : Top2 (fun e => v25 (ix2 e l)) a b) (hb : v25 (ix2 b l) ≠ ⊥)
    (h26 : ∀ e, v26 (ix2 e l) = BitVec.ofNat 32 e.val) (h28 : v28 (ix2 0 l) = v25 (ix2 a l))
    (h36 : ∀ e, v36 (ix2 e l) = BitVec.ofBool (decide (e = a))) (e : Fin 16) :
    k0_pay14 v25 v26 v28 v36 (Scalar.ofBits .f32 0xFF800000#32) (ix2 e l) = gate (fun e => v25 (ix2 e l)) a b e := by
  pointwise [k0_pay14]
  simp only [h26, h36, h28, select_eq]
  have hbot : (Scalar.ofBits .f32 0xFF800000#32 : Ideal .f32) = (⊥ : EReal) := ofBits_neg_inf
  simp only [ofBits_neg_inf, hbot, ofBits_fourteen]
  have h1 := fold_max_rest (fun e => v25 (ix2 e l)) h
  have h2 := picks_second (fun e => v25 (ix2 e l)) h hb
  rw [h1]
  simp only [h2, cmpi_pos, ori_decide, select_eq]
  rfl

section half
variable (wo co : Vec Ideal S16x1024 .f32) (bo io : Vec Ideal S16 .f32) (x : Vec Ideal S512x1024 .f32) (w : Vec Ideal S1024x1024 .bf16)
    (b : Vec Ideal S1024 .f32)

/-- The scores of row `l` of a half. -/
def rowScore (l : Fin 512) : Fin 16 → EReal :=
  score (fun k j => w (ix2 k j)) (fun k => b (ix1 k)) (fun e k => wo (ix2 e k)) (fun e => bo (ix1 e)) (fun j => x (ix2 l j))

/-- Entry `(e, l)` of the gates is the gate of expert `e` on row `l`, where no score of the row is `-∞`. -/
theorem halfGates_apply (l : Fin 512) (hb : ∀ e, rowScore wo bo x w b l e ≠ ⊥) (e : Fin 16) :
    halfGates wo bo x w b (ix2 e l) = rowGate (rowScore wo bo x w b l) e := by
  have hs : (fun e => k0_pay11 wo bo x w b (ix2 e l)) = rowScore wo bo x w b l := funext fun e => pay11_apply wo bo x w b e l
  have h : Top2 (fun e => k0_pay11 wo bo x w b (ix2 e l)) (pick1 (rowScore wo bo x w b l)) (pick2 (rowScore wo bo x w b l)) := by
    rw [hs]; exact top2_picks _
  refine (pay14_apply _ _ _ _ l h ?_ (fun e => positions_apply e l) (pay12_apply wo bo x w b l h 0)
    (fun e => pay13_apply wo bo x w b l h e) e).trans ?_
  · exact (congrFun hs _).trans_ne (hb _)
  · rw [hs]; rfl

/-- Entry `(e, l)` of the experts' outputs. -/
theorem pay10_apply (e : Fin 16) (l : Fin 512) :
    k0_pay10 co io x (ix2 e l) = expert (fun e k => co (ix2 e k)) (fun e => io (ix1 e)) (fun j => x (ix2 l j)) e := by
  pointwise [k0_pay10, k0_pay6, k0_pay8, k0_pay9]
  rfl

end half

/-- The first half's gates as stored: the tile transposed. -/
theorem pay15_apply (v25 : FVec Ideal S16x512 .f32) (v26 : IVec S16x512 32) (v28 : FVec Ideal S1x512 .f32) (v36 : IVec S16x512 1) (cst : Ideal .f32)
    (e : Fin 16) (l : Fin 512) : k0_pay15 v25 v26 v28 v36 cst (ix2 l e) = k0_pay14 v25 v26 v28 v36 cst (ix2 e l) := by
  pointwise [k0_pay15]
/-- The first half's results: the gates times the experts' outputs, summed. -/
theorem pay16_apply (v14 v25 : FVec Ideal S16x512 .f32) (v26 : IVec S16x512 32) (v28 : FVec Ideal S1x512 .f32) (v36 : IVec S16x512 1) (cst : Ideal .f32)
    (l : Fin 512) : k0_pay16 v14 v25 v26 v28 v36 cst (ix1 l) = ∑ e, k0_pay14 v25 v26 v28 v36 cst (ix2 e l) * v14 (ix2 e l) := by
  pointwise [k0_pay16]
/-- The first half's gates added to the totals. -/
theorem pay17_apply (v25 : FVec Ideal S16x512 .f32) (v26 : IVec S16x512 32) (v28 : FVec Ideal S1x512 .f32) (v36 : IVec S16x512 1) (cst : Ideal .f32)
    (v76 : Vec Ideal S16x512 .f32) (e : Fin 16) (l : Fin 512) : k0_pay17 v25 v26 v28 v36 cst v76 (ix2 e l) = v76 (ix2 e l) + k0_pay14 v25 v26 v28 v36 cst (ix2 e l) := by
  pointwise [k0_pay17]
/-- The second half's gates as stored: the tile transposed. -/
theorem pay27_apply (v105 : FVec Ideal S16x512 .f32) (v106 : IVec S16x512 32) (v108 : FVec Ideal S1x512 .f32) (v116 : IVec S16x512 1) (v118 : FVec Ideal S16x512 .f32) (v119 : FVec Ideal S512 .f32)
    (e : Fin 16) (l : Fin 512) : k0_pay27 v105 v106 v108 v116 v118 v119 (ix2 l e) = k0_pay26 v105 v106 v108 v116 v118 v119 (ix2 e l) := by
  pointwise [k0_pay27]
/-- The second half's results: the gates times the experts' outputs, summed. -/
theorem pay28_apply (v94 : FVec Ideal S16x512 .f32) (v105 : FVec Ideal S16x512 .f32) (v106 : IVec S16x512 32) (v108 : FVec Ideal S1x512 .f32) (v116 : IVec S16x512 1) (v118 : FVec Ideal S16x512 .f32) (v119 : FVec Ideal S512 .f32)
    (l : Fin 512) : k0_pay28 v94 v105 v106 v108 v116 v118 v119 (ix1 l) = ∑ e, k0_pay26 v105 v106 v108 v116 v118 v119 (ix2 e l) * v94 (ix2 e l) := by
  pointwise [k0_pay28]
/-- The second half's gates added to the totals. -/
theorem pay29_apply (v105 : FVec Ideal S16x512 .f32) (v106 : IVec S16x512 32) (v108 : FVec Ideal S1x512 .f32) (v116 : IVec S16x512 1) (v118 : FVec Ideal S16x512 .f32) (v119 : FVec Ideal S512 .f32)
    (v156 : Vec Ideal S16x512 .f32) (e : Fin 16) (l : Fin 512) : k0_pay29 v105 v106 v108 v116 v118 v119 v156 (ix2 e l) = v156 (ix2 e l) + k0_pay26 v105 v106 v108 v116 v118 v119 (ix2 e l) := by
  pointwise [k0_pay29]
/-- The word the body makes of a gate's sign, as a number. -/
theorem positive_word (x : EReal) : FloatOps.sitofp (F := Ideal) .f32 (BitVec.setWidth 32 (BitVec.ofBool (decide (0 < x)))) = positive x := by
  by_cases h : 0 < x <;> simp [h, positive, FloatOps.sitofp]
/-- The first half's positive gates added to the loads. -/
theorem pay18_apply (v70 : FVec Ideal S16x512 .f32) (v81 : Vec Ideal S16x512 .f32) (e : Fin 16) (l : Fin 512) :
    k0_pay18 v70 v81 (ix2 e l) = v81 (ix2 e l) + positive (v70 (ix2 e l)) := by
  pointwise [k0_pay18]
  rw [positive_word]
/-- The second half's positive gates added to the loads. -/
theorem pay1_apply (v70 : FVec Ideal S16x512 .f32) (v81 : Vec Ideal S16x512 .f32) (e : Fin 16) (l : Fin 512) :
    k0_pay1 v70 v81 (ix2 e l) = v81 (ix2 e l) + positive (v70 (ix2 e l)) := by
  pointwise [k0_pay1]
  rw [positive_word]
/-- The totals start at zero. -/
theorem pay4_apply (e : Fin 16) (l : Fin 512) : (k0_pay4 (F := Ideal)) (ix2 e l) = 0 := by
  pointwise [k0_pay4]
/-- The loads start at zero. -/
theorem pay5_apply (e : Fin 16) (l : Fin 512) : (k0_pay5 (F := Ideal)) (ix2 e l) = 0 := by
  pointwise [k0_pay5]
/-- The hidden layer's weights as kept between points: in a narrower type, whose ideal values are the same. -/
theorem pay3_eq (v : Vec Ideal S1024x1024 .f32) : k0_pay3 v = v := by
  funext j
  idx_vars j
  pointwise [k0_pay3]
/-- The loss the last point stores, of the totals and loads summed over the rows kept apart. -/
theorem pay2_eq (imp load : Vec Ideal S16x512 .f32) :
    k0_pay2 imp load = loss (fun e => ∑ l, imp (ix2 e l)) (fun e => ∑ l, load (ix2 e l)) := by
  pointwise [k0_pay2]
  simp only [Finset.sum_const, Finset.card_univ, Fintype.card_fin, one_smul]
  rfl

end Cert.KernelIdeal.Router
end
-- ==== Proof.Pieces.lean ====
/-
  What one grid point leaves, read at an index. The body works on its block of 1024 rows in two halves of 512; each half's
  gates and results go to its rows of the block (`canon9`, `canon7`), and each half adds its gates, and the signs of its gates,
  to the two accumulators (`totals`, `loads`). The three cases are the first point, which also fills the kept weights and clears
  the accumulators, the points between, and the last, which also stores the loss.
-/
module

public import proofs.«01_k».proof.Proof.Gen.KernelIdeal.Frame
public import proofs.«01_k».proof.Proof.KernelPay
public import Idealize.ShloMosaic.Lib.Pipeline.ValueKit
public import Idealize.ShloMosaic.Lib.Pipeline.ReadBack

@[expose] public section
set_option maxRecDepth 16384
noncomputable section
namespace Cert.KernelIdeal.Router
open Idealize.ShloMosaic Idealize.SL.Sem Cert.KernelIdeal Cert.KernelIdeal.Gen Cert.Router
open Idealize.ShloMosaic.Pipeline (Dat Cfg Window)

/-- The rows of a block's first half. -/
abbrev lower (x0 : Vec Ideal S1024x1024 .f32) : Vec Ideal S512x1024 .f32 := View.ld x0 (Rect.unit ![0, 0] ![512, 1024] inb_S1024x1024_S512x1024_0_0)
/-- The rows of a block's second half. -/
abbrev upper (x0 : Vec Ideal S1024x1024 .f32) : Vec Ideal S512x1024 .f32 := View.ld x0 (Rect.unit ![512, 0] ![512, 1024] inb_S1024x1024_S512x1024_512_0)

/-- Row `l` of the first half is row `l` of the block. -/
theorem lower_apply (x0 : Vec Ideal S1024x1024 .f32) (l : Fin 512) (j : Fin 1024) (r : Fin 1024) (hr : r.val = l.val) :
    lower x0 (ix2 l j) = x0 (ix2 r j) := by
  refine View.ld_unit_apply_of _ _ _ _ _ _ fun a => ?_
  match a with
  | ⟨0, _⟩ => exact hr.trans (Nat.zero_add _).symm
  | ⟨1, _⟩ => exact (Nat.zero_add _).symm
/-- Row `l` of the second half is row `512 + l` of the block. -/
theorem upper_apply (x0 : Vec Ideal S1024x1024 .f32) (l : Fin 512) (j : Fin 1024) (r : Fin 1024) (hr : r.val = 512 + l.val) :
    upper x0 (ix2 l j) = x0 (ix2 r j) := by
  refine View.ld_unit_apply_of _ _ _ _ _ _ fun a => ?_
  match a with
  | ⟨0, _⟩ => exact hr
  | ⟨1, _⟩ => exact (Nat.zero_add _).symm

section tile
variable (x0 : Vec Ideal S1024x1024 .f32) (w : Vec Ideal S1024x1024 .bf16) (x2 : Vec Ideal S1024 .f32) (x3 : Vec Ideal S16x1024 .f32) (x4 : Vec Ideal S16 .f32)
  (x5 : Vec Ideal S16x1024 .f32) (x6 : Vec Ideal S16 .f32)

/-- The scores of row `r` of a block. -/
def blockScore (r : Fin 1024) : Fin 16 → EReal :=
  score (fun k j => w (ix2 k j)) (fun k => x2 (ix1 k)) (fun e k => x3 (ix2 e k)) (fun e => x4 (ix1 e)) (fun j => x0 (ix2 r j))
/-- The experts' outputs on row `r` of a block. -/
def blockExpert (r : Fin 1024) : Fin 16 → EReal :=
  expert (fun e k => x5 (ix2 e k)) (fun e => x6 (ix1 e)) (fun j => x0 (ix2 r j))

/-- A row's scores read off the first half are the block row's. -/
theorem rowScore_lower (l : Fin 512) (r : Fin 1024) (hr : r.val = l.val) :
    rowScore x3 x4 (lower x0) w x2 l = blockScore x0 w x2 x3 x4 r := by
  unfold rowScore blockScore; congr 1; funext j; exact lower_apply x0 l j r hr
/-- A row's scores read off the second half are the block row's. -/
theorem rowScore_upper (l : Fin 512) (r : Fin 1024) (hr : r.val = 512 + l.val) :
    rowScore x3 x4 (upper x0) w x2 l = blockScore x0 w x2 x3 x4 r := by
  unfold rowScore blockScore; congr 1; funext j; exact upper_apply x0 l j r hr

variable (hb : ∀ r e, blockScore x0 w x2 x3 x4 r e ≠ ⊥)
include hb

/-- The first half's gates are the block rows'. -/
theorem gates_lower (l : Fin 512) (r : Fin 1024) (hr : r.val = l.val) (e : Fin 16) :
    k0_pay14 (k0_pay11 x3 x4 (View.ld x0 (Rect.unit ![0, 0] ![512, 1024] inb_S1024x1024_S512x1024_0_0)) w x2) (iota Kind.tc S16x512 32 [0] iota_S16x512_d0_w32) (k0_pay12 x3 x4 (View.ld x0 (Rect.unit ![0, 0] ![512, 1024] inb_S1024x1024_S512x1024_0_0)) w x2) (k0_pay13 x3 x4 (View.ld x0 (Rect.unit ![0, 0] ![512, 1024] inb_S1024x1024_S512x1024_0_0)) w x2)
      (FloatOps.ofBits FTy.f32 4286578688#32) (ix2 e l) = rowGate (blockScore x0 w x2 x3 x4 r) e := by
  have h := rowScore_lower x0 w x2 x3 x4 l r hr
  refine (halfGates_apply x3 x4 (lower x0) w x2 l (fun e => ?_) e).trans ?_
  · rw [h]; exact hb r e
  · rw [h]
/-- The second half's gates are the block rows'. -/
theorem gates_upper (l : Fin 512) (r : Fin 1024) (hr : r.val = 512 + l.val) (e : Fin 16) :
    k0_pay26 (k0_pay21 x3 (k0_pay7 x4) (View.ld x0 (Rect.unit ![512, 0] ![512, 1024] inb_S1024x1024_S512x1024_512_0)) w x2) (iota Kind.tc S16x512 32 [0] iota_S16x512_d0_w32) (k0_pay22 x3 (k0_pay7 x4) (View.ld x0 (Rect.unit ![512, 0] ![512, 1024] inb_S1024x1024_S512x1024_512_0)) w x2) (k0_pay23 x3 (k0_pay7 x4) (View.ld x0 (Rect.unit ![512, 0] ![512, 1024] inb_S1024x1024_S512x1024_512_0)) w x2)
      (k0_pay24 x3 (k0_pay7 x4) (View.ld x0 (Rect.unit ![512, 0] ![512, 1024] inb_S1024x1024_S512x1024_512_0)) w x2) (k0_pay25 x3 (k0_pay7 x4) (View.ld x0 (Rect.unit ![512, 0] ![512, 1024] inb_S1024x1024_S512x1024_512_0)) w x2) (ix2 e l) = rowGate (blockScore x0 w x2 x3 x4 r) e := by
  have h := rowScore_upper x0 w x2 x3 x4 l r hr
  refine (congrFun (second_gates x3 x4 (upper x0) w x2) _).trans ((halfGates_apply x3 x4 (upper x0) w x2 l (fun e => ?_) e).trans ?_)
  · rw [h]; exact hb r e
  · rw [h]

/-- The gates a point leaves in its block of the third result. -/
theorem canon9 (r : Fin 1024) (e : Fin 16) :
    View.canon (Val := Elt Ideal)
      [(⟨Rect.unit ![512, 0] ![512, 16] inb_S1024x16_S512x16_512_0, k0_pay27 (k0_pay21 x3 (k0_pay7 x4) (View.ld x0 (Rect.unit ![512, 0] ![512, 1024] inb_S1024x1024_S512x1024_512_0)) w x2) (iota Kind.tc S16x512 32 [0] iota_S16x512_d0_w32) (k0_pay22 x3 (k0_pay7 x4) (View.ld x0 (Rect.unit ![512, 0] ![512, 1024] inb_S1024x1024_S512x1024_512_0)) w x2) (k0_pay23 x3 (k0_pay7 x4) (View.ld x0 (Rect.unit ![512, 0] ![512, 1024] inb_S1024x1024_S512x1024_512_0)) w x2)
      (k0_pay24 x3 (k0_pay7 x4) (View.ld x0 (Rect.unit ![512, 0] ![512, 1024] inb_S1024x1024_S512x1024_512_0)) w x2) (k0_pay25 x3 (k0_pay7 x4) (View.ld x0 (Rect.unit ![512, 0] ![512, 1024] inb_S1024x1024_S512x1024_512_0)) w x2)⟩ : View.Piece (Elt Ideal) S1024x16 .f32),
        ⟨Rect.unit ![0, 0] ![512, 16] inb_S1024x16_S512x16_0_0, k0_pay15 (k0_pay11 x3 x4 (View.ld x0 (Rect.unit ![0, 0] ![512, 1024] inb_S1024x1024_S512x1024_0_0)) w x2) (iota Kind.tc S16x512 32 [0] iota_S16x512_d0_w32) (k0_pay12 x3 x4 (View.ld x0 (Rect.unit ![0, 0] ![512, 1024] inb_S1024x1024_S512x1024_0_0)) w x2) (k0_pay13 x3 x4 (View.ld x0 (Rect.unit ![0, 0] ![512, 1024] inb_S1024x1024_S512x1024_0_0)) w x2)
      (FloatOps.ofBits FTy.f32 4286578688#32)⟩] (ix2 r e) = rowGate (blockScore x0 w x2 x3 x4 r) e := by
  canon_tiles p h
  · idx_vars p
    rw [pay27_apply, gates_upper x0 w x2 x3 x4 hb p0 r h0 p1]
    exact congrArg _ (Fin.ext h1.symm)
  · idx_vars p
    rw [pay15_apply, gates_lower x0 w x2 x3 x4 hb p0 r h0 p1]
    exact congrArg _ (Fin.ext h1.symm)
/-- The outputs a point leaves in its block of the first result. -/
theorem canon7 (r : Fin 1024) :
    View.canon (Val := Elt Ideal)
      [(⟨Rect.unit ![512] ![512] inb_S1024_S512_512, k0_pay28 (k0_pay20 (k0_pay6 x5) (k0_pay8 x6) (View.ld x0 (Rect.unit ![512, 0] ![512, 1024] inb_S1024x1024_S512x1024_512_0))) (k0_pay21 x3 (k0_pay7 x4) (View.ld x0 (Rect.unit ![512, 0] ![512, 1024] inb_S1024x1024_S512x1024_512_0)) w x2) (iota Kind.tc S16x512 32 [0] iota_S16x512_d0_w32) (k0_pay22 x3 (k0_pay7 x4) (View.ld x0 (Rect.unit ![512, 0] ![512, 1024] inb_S1024x1024_S512x1024_512_0)) w x2) (k0_pay23 x3 (k0_pay7 x4) (View.ld x0 (Rect.unit ![512, 0] ![512, 1024] inb_S1024x1024_S512x1024_512_0)) w x2)
      (k0_pay24 x3 (k0_pay7 x4) (View.ld x0 (Rect.unit ![512, 0] ![512, 1024] inb_S1024x1024_S512x1024_512_0)) w x2) (k0_pay25 x3 (k0_pay7 x4) (View.ld x0 (Rect.unit ![512, 0] ![512, 1024] inb_S1024x1024_S512x1024_512_0)) w x2)⟩ : View.Piece (Elt Ideal) S1024 .f32),
        ⟨Rect.unit ![0] ![512] inb_S1024_S512_0, k0_pay16 (k0_pay10 x5 x6 (View.ld x0 (Rect.unit ![0, 0] ![512, 1024] inb_S1024x1024_S512x1024_0_0))) (k0_pay11 x3 x4 (View.ld x0 (Rect.unit ![0, 0] ![512, 1024] inb_S1024x1024_S512x1024_0_0)) w x2) (iota Kind.tc S16x512 32 [0] iota_S16x512_d0_w32) (k0_pay12 x3 x4 (View.ld x0 (Rect.unit ![0, 0] ![512, 1024] inb_S1024x1024_S512x1024_0_0)) w x2) (k0_pay13 x3 x4 (View.ld x0 (Rect.unit ![0, 0] ![512, 1024] inb_S1024x1024_S512x1024_0_0)) w x2)
      (FloatOps.ofBits FTy.f32 4286578688#32)⟩] (ix1 r)
      = ∑ e, rowGate (blockScore x0 w x2 x3 x4 r) e * blockExpert x0 x5 x6 r e := by
  canon_tiles p h
  · idx_vars p
    rw [pay28_apply, second_eo]
    refine Finset.sum_congr rfl fun e _ => ?_
    rw [gates_upper x0 w x2 x3 x4 hb p0 r h0 e, pay10_apply]
    congr 1; unfold blockExpert; congr 1; funext j; exact upper_apply x0 p0 j r h0
  · idx_vars p
    rw [pay16_apply]
    refine Finset.sum_congr rfl fun e _ => ?_
    rw [gates_lower x0 w x2 x3 x4 hb p0 r h0 e, pay10_apply]
    congr 1; unfold blockExpert; congr 1; funext j; exact lower_apply x0 p0 j r h0

/-- The totals after a point whose totals before were `t`. -/
theorem totals (t : Vec Ideal S16x512 .f32) (e : Fin 16) (l : Fin 512) (r r' : Fin 1024) (hr : r.val = l.val) (hr' : r'.val = 512 + l.val) :
    k0_pay29 (k0_pay21 x3 (k0_pay7 x4) (View.ld x0 (Rect.unit ![512, 0] ![512, 1024] inb_S1024x1024_S512x1024_512_0)) w x2) (iota Kind.tc S16x512 32 [0] iota_S16x512_d0_w32) (k0_pay22 x3 (k0_pay7 x4) (View.ld x0 (Rect.unit ![512, 0] ![512, 1024] inb_S1024x1024_S512x1024_512_0)) w x2) (k0_pay23 x3 (k0_pay7 x4) (View.ld x0 (Rect.unit ![512, 0] ![512, 1024] inb_S1024x1024_S512x1024_512_0)) w x2)
      (k0_pay24 x3 (k0_pay7 x4) (View.ld x0 (Rect.unit ![512, 0] ![512, 1024] inb_S1024x1024_S512x1024_512_0)) w x2) (k0_pay25 x3 (k0_pay7 x4) (View.ld x0 (Rect.unit ![512, 0] ![512, 1024] inb_S1024x1024_S512x1024_512_0)) w x2) (k0_pay17 (k0_pay11 x3 x4 (View.ld x0 (Rect.unit ![0, 0] ![512, 1024] inb_S1024x1024_S512x1024_0_0)) w x2) (iota Kind.tc S16x512 32 [0] iota_S16x512_d0_w32) (k0_pay12 x3 x4 (View.ld x0 (Rect.unit ![0, 0] ![512, 1024] inb_S1024x1024_S512x1024_0_0)) w x2) (k0_pay13 x3 x4 (View.ld x0 (Rect.unit ![0, 0] ![512, 1024] inb_S1024x1024_S512x1024_0_0)) w x2)
      (FloatOps.ofBits FTy.f32 4286578688#32) t) (ix2 e l)
      = t (ix2 e l) + rowGate (blockScore x0 w x2 x3 x4 r) e + rowGate (blockScore x0 w x2 x3 x4 r') e := by
  rw [pay29_apply, pay17_apply, gates_lower x0 w x2 x3 x4 hb l r hr e, gates_upper x0 w x2 x3 x4 hb l r' hr' e]
/-- The loads after a point whose loads before were `t`. -/
theorem loads (t : Vec Ideal S16x512 .f32) (e : Fin 16) (l : Fin 512) (r r' : Fin 1024) (hr : r.val = l.val) (hr' : r'.val = 512 + l.val) :
    k0_pay1 (k0_pay26 (k0_pay21 x3 (k0_pay7 x4) (View.ld x0 (Rect.unit ![512, 0] ![512, 1024] inb_S1024x1024_S512x1024_512_0)) w x2) (iota Kind.tc S16x512 32 [0] iota_S16x512_d0_w32) (k0_pay22 x3 (k0_pay7 x4) (View.ld x0 (Rect.unit ![512, 0] ![512, 1024] inb_S1024x1024_S512x1024_512_0)) w x2) (k0_pay23 x3 (k0_pay7 x4) (View.ld x0 (Rect.unit ![512, 0] ![512, 1024] inb_S1024x1024_S512x1024_512_0)) w x2)
      (k0_pay24 x3 (k0_pay7 x4) (View.ld x0 (Rect.unit ![512, 0] ![512, 1024] inb_S1024x1024_S512x1024_512_0)) w x2) (k0_pay25 x3 (k0_pay7 x4) (View.ld x0 (Rect.unit ![512, 0] ![512, 1024] inb_S1024x1024_S512x1024_512_0)) w x2)) (k0_pay18 (k0_pay14 (k0_pay11 x3 x4 (View.ld x0 (Rect.unit ![0, 0] ![512, 1024] inb_S1024x1024_S512x1024_0_0)) w x2) (iota Kind.tc S16x512 32 [0] iota_S16x512_d0_w32) (k0_pay12 x3 x4 (View.ld x0 (Rect.unit ![0, 0] ![512, 1024] inb_S1024x1024_S512x1024_0_0)) w x2) (k0_pay13 x3 x4 (View.ld x0 (Rect.unit ![0, 0] ![512, 1024] inb_S1024x1024_S512x1024_0_0)) w x2)
      (FloatOps.ofBits FTy.f32 4286578688#32)) t) (ix2 e l)
      = t (ix2 e l) + positive (rowGate (blockScore x0 w x2 x3 x4 r) e) + positive (rowGate (blockScore x0 w x2 x3 x4 r') e) := by
  rw [pay1_apply, pay18_apply, gates_lower x0 w x2 x3 x4 hb l r hr e, gates_upper x0 w x2 x3 x4 hb l r' hr' e]
end tile

section cases
variable (c : Dev nD) (i : grid0.Coords)
  (arg1 : Memref sig .tc .vmem S1024x1024 .f32) (harg1 : arg1.IsWhole)
  (arg2 : Memref sig .tc .vmem S1024x1024 .f32) (harg2 : arg2.IsWhole)
  (arg3 : Memref sig .tc .vmem S1024 .f32) (harg3 : arg3.IsWhole)
  (arg4 : Memref sig .tc .vmem S16x1024 .f32) (harg4 : arg4.IsWhole)
  (arg5 : Memref sig .tc .vmem S16 .f32) (harg5 : arg5.IsWhole)
  (arg6 : Memref sig .tc .vmem S16x1024 .f32) (harg6 : arg6.IsWhole)
  (arg7 : Memref sig .tc .vmem S16 .f32) (harg7 : arg7.IsWhole)
  (arg8 : Memref sig .tc .vmem S1024 .f32) (harg8 : arg8.IsWhole)
  (arg9 : Memref sig .tc .smem S1 .f32) (harg9 : arg9.IsWhole)
  (arg10 : Memref sig .tc .vmem S1024x16 .f32) (harg10 : arg10.IsWhole)
  (arg11 : Memref sig .tc .vmem S1024x1024 .bf16) (harg11 : arg11.IsWhole)
  (arg12 : Memref sig .tc .vmem S16x512 .f32) (harg12 : arg12.IsWhole)
  (arg13 : Memref sig .tc .vmem S16x512 .f32) (harg13 : arg13.IsWhole)
  (x0 : Vec Ideal S1024x1024 .f32) (x1 : Vec Ideal S1024x1024 .f32) (x2 : Vec Ideal S1024 .f32) (x3 : Vec Ideal S16x1024 .f32) (x4 : Vec Ideal S16 .f32)
  (x5 : Vec Ideal S16x1024 .f32) (x6 : Vec Ideal S16 .f32) (xs0 : Vec Ideal S1024x1024 .bf16) (xs1 xs2 : Vec Ideal S16x512 .f32)

/-- Case A: the block of gates. -/
theorem out9_A (hc0 : cond0_0 i) (hc1 : ¬cond0_1 i) (hb : ∀ r e, blockScore x0 x1 x2 x3 x4 r e ≠ ⊥) (r : Fin 1024) (e : Fin 16) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 r e) = rowGate (blockScore x0 x1 x2 x3 x4 r) e := by
  frame_out
  exact (canon9 x0 (k0_pay3 x1) x2 x3 x4 (by rw [pay3_eq]; exact hb) r e).trans (by rw [pay3_eq])
/-- Case A: the block of results. -/
theorem out7_A (hc0 : cond0_0 i) (hc1 : ¬cond0_1 i) (hb : ∀ r e, blockScore x0 x1 x2 x3 x4 r e ≠ ⊥) (r : Fin 1024) :
    out0_A_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix1 r) = ∑ e, rowGate (blockScore x0 x1 x2 x3 x4 r) e * blockExpert x0 x5 x6 r e := by
  frame_out
  exact (canon7 x0 (k0_pay3 x1) x2 x3 x4 x5 x6 (by rw [pay3_eq]; exact hb) r).trans (by rw [pay3_eq])
/-- Case A: the weights kept. -/
theorem keep_A (hc0 : cond0_0 i) (hc1 : ¬cond0_1 i) : sout0_A_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 = x1 := by
  frame_out; exact pay3_eq x1
/-- Case A: the totals kept. -/
theorem totals_A (hc0 : cond0_0 i) (hc1 : ¬cond0_1 i) (hb : ∀ r e, blockScore x0 x1 x2 x3 x4 r e ≠ ⊥) (e : Fin 16) (l : Fin 512) (r r' : Fin 1024) (hr : r.val = l.val) (hr' : r'.val = 512 + l.val) :
    sout0_A_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 e l) = 0 + rowGate (blockScore x0 x1 x2 x3 x4 r) e + rowGate (blockScore x0 x1 x2 x3 x4 r') e := by
  frame_out
  exact (totals x0 (k0_pay3 x1) x2 x3 x4 (by rw [pay3_eq]; exact hb) _ e l r r' hr hr').trans (by rw [pay3_eq, pay4_apply])
/-- Case A: the loads kept. -/
theorem loads_A (hc0 : cond0_0 i) (hc1 : ¬cond0_1 i) (hb : ∀ r e, blockScore x0 x1 x2 x3 x4 r e ≠ ⊥) (e : Fin 16) (l : Fin 512) (r r' : Fin 1024) (hr : r.val = l.val) (hr' : r'.val = 512 + l.val) :
    sout0_A_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 (ix2 e l) = 0 + positive (rowGate (blockScore x0 x1 x2 x3 x4 r) e) + positive (rowGate (blockScore x0 x1 x2 x3 x4 r') e) := by
  frame_out
  exact (loads x0 (k0_pay3 x1) x2 x3 x4 (by rw [pay3_eq]; exact hb) _ e l r r' hr hr').trans (by rw [pay3_eq, pay5_apply])

/-- Case B: the block of gates. -/
theorem out9_B (hc0 : ¬cond0_0 i) (hc1 : ¬cond0_1 i) (hb : ∀ r e, blockScore x0 xs0 x2 x3 x4 r e ≠ ⊥) (r : Fin 1024) (e : Fin 16) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 r e) = rowGate (blockScore x0 xs0 x2 x3 x4 r) e := by
  frame_out
  exact (canon9 x0 xs0 x2 x3 x4 hb r e)
/-- Case B: the block of results. -/
theorem out7_B (hc0 : ¬cond0_0 i) (hc1 : ¬cond0_1 i) (hb : ∀ r e, blockScore x0 xs0 x2 x3 x4 r e ≠ ⊥) (r : Fin 1024) :
    out0_B_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix1 r) = ∑ e, rowGate (blockScore x0 xs0 x2 x3 x4 r) e * blockExpert x0 x5 x6 r e := by
  frame_out
  exact (canon7 x0 xs0 x2 x3 x4 x5 x6 hb r)
/-- Case B: the weights kept. -/
theorem keep_B (hc0 : ¬cond0_0 i) (hc1 : ¬cond0_1 i) : sout0_B_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = xs0 := by
  rfl
/-- Case B: the totals kept. -/
theorem totals_B (hc0 : ¬cond0_0 i) (hc1 : ¬cond0_1 i) (hb : ∀ r e, blockScore x0 xs0 x2 x3 x4 r e ≠ ⊥) (e : Fin 16) (l : Fin 512) (r r' : Fin 1024) (hr : r.val = l.val) (hr' : r'.val = 512 + l.val) :
    sout0_B_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 e l) = xs1 (ix2 e l) + rowGate (blockScore x0 xs0 x2 x3 x4 r) e + rowGate (blockScore x0 xs0 x2 x3 x4 r') e := by
  frame_out
  exact (totals x0 xs0 x2 x3 x4 hb _ e l r r' hr hr')
/-- Case B: the loads kept. -/
theorem loads_B (hc0 : ¬cond0_0 i) (hc1 : ¬cond0_1 i) (hb : ∀ r e, blockScore x0 xs0 x2 x3 x4 r e ≠ ⊥) (e : Fin 16) (l : Fin 512) (r r' : Fin 1024) (hr : r.val = l.val) (hr' : r'.val = 512 + l.val) :
    sout0_B_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 e l) = xs2 (ix2 e l) + positive (rowGate (blockScore x0 xs0 x2 x3 x4 r) e) + positive (rowGate (blockScore x0 xs0 x2 x3 x4 r') e) := by
  frame_out
  exact (loads x0 xs0 x2 x3 x4 hb _ e l r r' hr hr')

/-- Case C: the block of gates. -/
theorem out9_C (hc0 : ¬cond0_0 i) (hc1 : cond0_1 i) (hb : ∀ r e, blockScore x0 xs0 x2 x3 x4 r e ≠ ⊥) (r : Fin 1024) (e : Fin 16) :
    out0_C_9 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 r e) = rowGate (blockScore x0 xs0 x2 x3 x4 r) e := by
  frame_out
  exact (canon9 x0 xs0 x2 x3 x4 hb r e)
/-- Case C: the block of results. -/
theorem out7_C (hc0 : ¬cond0_0 i) (hc1 : cond0_1 i) (hb : ∀ r e, blockScore x0 xs0 x2 x3 x4 r e ≠ ⊥) (r : Fin 1024) :
    out0_C_7 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix1 r) = ∑ e, rowGate (blockScore x0 xs0 x2 x3 x4 r) e * blockExpert x0 x5 x6 r e := by
  frame_out
  exact (canon7 x0 xs0 x2 x3 x4 x5 x6 hb r)
/-- Case C: the weights kept. -/
theorem keep_C (hc0 : ¬cond0_0 i) (hc1 : cond0_1 i) : sout0_C_0 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 = xs0 := by
  rfl
/-- Case C: the totals kept. -/
theorem totals_C (hc0 : ¬cond0_0 i) (hc1 : cond0_1 i) (hb : ∀ r e, blockScore x0 xs0 x2 x3 x4 r e ≠ ⊥) (e : Fin 16) (l : Fin 512) (r r' : Fin 1024) (hr : r.val = l.val) (hr' : r'.val = 512 + l.val) :
    sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 e l) = xs1 (ix2 e l) + rowGate (blockScore x0 xs0 x2 x3 x4 r) e + rowGate (blockScore x0 xs0 x2 x3 x4 r') e := by
  frame_out
  exact (totals x0 xs0 x2 x3 x4 hb _ e l r r' hr hr')
/-- Case C: the loads kept. -/
theorem loads_C (hc0 : ¬cond0_0 i) (hc1 : cond0_1 i) (hb : ∀ r e, blockScore x0 xs0 x2 x3 x4 r e ≠ ⊥) (e : Fin 16) (l : Fin 512) (r r' : Fin 1024) (hr : r.val = l.val) (hr' : r'.val = 512 + l.val) :
    sout0_C_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 e l) = xs2 (ix2 e l) + positive (rowGate (blockScore x0 xs0 x2 x3 x4 r) e) + positive (rowGate (blockScore x0 xs0 x2 x3 x4 r') e) := by
  frame_out
  exact (loads x0 xs0 x2 x3 x4 hb _ e l r r' hr hr')

/-- The last point's loss, of the totals and loads it leaves. -/
theorem out8_C (hc0 : ¬cond0_0 i) (hc1 : cond0_1 i) (j : S1.Idx) :
    out0_C_8 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 j = loss (fun e => ∑ l, sout0_C_1 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 e l)) (fun e => ∑ l, sout0_C_2 (F := Ideal) c i arg1 harg1 arg2 harg2 arg3 harg3 arg4 harg4 arg5 harg5 arg6 harg6 arg7 harg7 arg8 harg8 arg9 harg9 arg10 harg10 arg11 harg11 arg12 harg12 arg13 harg13 hc0 hc1 x0 x1 x2 x3 x4 x5 x6 xs0 xs1 xs2 (ix2 e l)) := by
  frame_out
  exact pay2_eq _ _
end cases

end Cert.KernelIdeal.Router
end
-- ==== Proof.KernelBlocks.lean ====
/-
  The arrays the kernel leaves, as functions of its arguments. Point `t` of the grid works on rows `1024 t` to `1024 t + 1023`;
  the three kept buffers hold the hidden layer's weights and, per expert and lane, what the points so far added up.
-/
module

public import proofs.«01_k».proof.Proof.Gen.KernelIdeal.Value
public import proofs.«01_k».proof.Proof.Pieces

@[expose] public section
set_option maxRecDepth 16384
noncomputable section
namespace Cert.KernelIdeal.Router
open Idealize.ShloMosaic Idealize.ShloMosaic.TcCoe Idealize.SL.Sem Cert.KernelIdeal Cert.KernelIdeal.Gen Cert.Router
open Idealize.ShloMosaic.Pipeline (Dat Cfg Window)
variable (m : (ℓ : Loc nD τ sig) → Buf (Elt Ideal) ℓ) (c : Dev nD)

/-- The rows. -/
abbrev argX : Vec Ideal S8192x1024 .f32 := m ((c : Thread nD τ).loc main_arg0)
/-- The hidden layer's weights. -/
abbrev argW : Vec Ideal S1024x1024 .f32 := m ((c : Thread nD τ).loc main_arg1)
/-- The hidden layer's offsets. -/
abbrev argB : Vec Ideal S1024 .f32 := m ((c : Thread nD τ).loc main_arg2)
/-- The output layer's weights. -/
abbrev argWo : Vec Ideal S16x1024 .f32 := m ((c : Thread nD τ).loc main_arg3)
/-- The output layer's offsets. -/
abbrev argBo : Vec Ideal S16 .f32 := m ((c : Thread nD τ).loc main_arg4)
/-- The experts' coefficients. -/
abbrev argCo : Vec Ideal S16x1024 .f32 := m ((c : Thread nD τ).loc main_arg5)
/-- The experts' intercepts. -/
abbrev argIo : Vec Ideal S16 .f32 := m ((c : Thread nD τ).loc main_arg6)

/-- The scores of row `r`. -/
def scores (r : Fin 8192) : Fin 16 → EReal :=
  score (fun k j => argW m c (ix2 k j)) (fun k => argB m c (ix1 k)) (fun e k => argWo m c (ix2 e k)) (fun e => argBo m c (ix1 e))
    (fun j => argX m c (ix2 r j))
/-- The experts' outputs on row `r`. -/
def experts (r : Fin 8192) : Fin 16 → EReal :=
  expert (fun e k => argCo m c (ix2 e k)) (fun e => argIo m c (ix1 e)) (fun j => argX m c (ix2 r j))

/-- Which block each window shows at each point. -/
theorem idx : ∀ t : Fin cfg0.N, win0_0.index t = ![t.val, 0] ∧ win0_1.index t = ![0, 0] ∧ win0_2.index t = ![0] ∧ win0_3.index t = ![0, 0]
    ∧ win0_4.index t = ![0] ∧ win0_5.index t = ![0, 0] ∧ win0_6.index t = ![0] ∧ win0_7.index t = ![t.val] ∧ win0_8.index t = ![0] ∧ win0_9.index t = ![t.val, 0] :=
  (by decide +kernel : ∀ t : Fin grid0.N, _)

/-- Row `n` of the whole array. -/
def row (n : ℕ) : Fin 8192 := Fin.ofNat 8192 n
/-- A row in range has its own number. -/
theorem row_val {n : ℕ} (h : n < 8192) : (row n).val = n := Nat.mod_eq_of_lt h

/-- Row `r` of the block of rows at point `t`. -/
theorem iblk0 (t : Fin cfg0.N) (r j : Fin 1024) : iblk m c 0 t (ix2 r j) = argX m c (ix2 (row (1024 * t.val + r.val)) j) := by
  have ht : t.val < 8 := t.isLt
  have hR : (row (1024 * t.val + r.val)).val = 1024 * t.val + r.val := row_val (by omega)
  blk_ext! [iblk, V, idx t]
/-- Every point's block of the hidden layer's weights is the whole array. -/
theorem iblk1 (t : Fin cfg0.N) : iblk m c 1 t = argW m c := by blk_ext! [iblk, V, idx t]
/-- Every point's block of the hidden layer's offsets is the whole array. -/
theorem iblk2 (t : Fin cfg0.N) : iblk m c 2 t = argB m c := by blk_ext! [iblk, V, idx t]
/-- Every point's block of the output layer's weights is the whole array. -/
theorem iblk3 (t : Fin cfg0.N) : iblk m c 3 t = argWo m c := by blk_ext! [iblk, V, idx t]
/-- Every point's block of the output layer's offsets is the whole array. -/
theorem iblk4 (t : Fin cfg0.N) : iblk m c 4 t = argBo m c := by blk_ext! [iblk, V, idx t]
/-- Every point's block of the experts' coefficients is the whole array. -/
theorem iblk5 (t : Fin cfg0.N) : iblk m c 5 t = argCo m c := by blk_ext! [iblk, V, idx t]
/-- Every point's block of the experts' intercepts is the whole array. -/
theorem iblk6 (t : Fin cfg0.N) : iblk m c 6 t = argIo m c := by blk_ext! [iblk, V, idx t]

/-- A block row's scores are the row's. -/
theorem blockScore_eq (t : Fin cfg0.N) (r : Fin 1024) :
    blockScore (iblk m c 0 t) (argW m c) (iblk m c 2 t) (iblk m c 3 t) (iblk m c 4 t) r = scores m c (row (1024 * t.val + r.val)) := by
  rw [iblk2, iblk3, iblk4]; unfold blockScore scores; congr 1; funext j; exact iblk0 m c t r j
/-- A block row's experts' outputs are the row's. -/
theorem blockExpert_eq (t : Fin cfg0.N) (r : Fin 1024) :
    blockExpert (iblk m c 0 t) (iblk m c 5 t) (iblk m c 6 t) r = experts m c (row (1024 * t.val + r.val)) := by
  rw [iblk5, iblk6]; unfold blockExpert experts; congr 1; funext j; exact iblk0 m c t r j

variable (hs : ∀ r e, scores m c r e ≠ ⊥)

/-- The buffer of weights after every point. -/
theorem kept (n : ℕ) (hn : n < cfg0.N) : (outsAt0 m c n hn).2.2.2.1 = argW m c := by
  induction n with
  | zero =>
    rw [show (outsAt0 m c 0 hn) = _ from outsAt0_A m c ⟨0, hn⟩ rfl (by change ¬0 % 8 = 7; decide)]
    dsimp only
    exact (keep_A ..).trans (iblk1 m c _)
  | succ n ih =>
    have hn8 : n + 1 < 8 := hn
    have ih := ih (by omega)
    by_cases h7 : (n + 1) % 8 = 7
    · rw [show (outsAt0 m c (n + 1) hn) = _ from outsAt0_C m c ⟨n + 1, hn⟩ (by change ¬(n + 1) % 8 = 0; omega) h7]
      dsimp only
      exact (keep_C ..).trans ih
    · rw [show (outsAt0 m c (n + 1) hn) = _ from outsAt0_B m c ⟨n + 1, hn⟩ (by change ¬(n + 1) % 8 = 0; omega) h7]
      dsimp only
      exact (keep_B ..).trans ih

include hs

/-- No score of a block is −∞. -/
theorem blockScore_ne (t : Fin cfg0.N) (r : Fin 1024) (e : Fin 16) :
    blockScore (iblk m c 0 t) (argW m c) (iblk m c 2 t) (iblk m c 3 t) (iblk m c 4 t) r e ≠ ⊥ := by
  rw [blockScore_eq]; exact hs _ _

/-- The gates each point leaves in its block. -/
theorem gates_at (t : Fin cfg0.N) (r : Fin 1024) (e : Fin 16) :
    (outsAt0 m c t.val t.isLt).2.2.1 (ix2 r e) = rowGate (scores m c (row (1024 * t.val + r.val))) e := by
  have hb := blockScore_ne m c hs t
  rw [← blockScore_eq]
  by_cases h0 : t.val % 8 = 0
  · rw [outsAt0_A m c t h0 (by omega)]
    dsimp only
    refine (out9_A (hb := ?_) ..).trans ?_
    · rw [iblk1]; exact hb
    · rw [iblk1]
  · have hk : (outsAt0 m c (t.val - 1) (by have := t.isLt; omega)).2.2.2.1 = argW m c := kept m c _ _
    by_cases h7 : t.val % 8 = 7
    · rw [outsAt0_C m c t h0 h7]
      dsimp only
      refine (out9_C (hb := ?_) ..).trans ?_
      · rw [hk]; exact hb
      · rw [hk]
    · rw [outsAt0_B m c t h0 h7]
      dsimp only
      refine (out9_B (hb := ?_) ..).trans ?_
      · rw [hk]; exact hb
      · rw [hk]

/-- The results each point leaves in its block. -/
theorem outs_at (t : Fin cfg0.N) (r : Fin 1024) :
    (outsAt0 m c t.val t.isLt).1 (ix1 r)
      = ∑ e, rowGate (scores m c (row (1024 * t.val + r.val))) e * experts m c (row (1024 * t.val + r.val)) e := by
  have hb := blockScore_ne m c hs t
  rw [← blockScore_eq, ← blockExpert_eq]
  by_cases h0 : t.val % 8 = 0
  · rw [outsAt0_A m c t h0 (by omega)]
    dsimp only
    refine (out7_A (hb := ?_) ..).trans ?_
    · rw [iblk1]; exact hb
    · rw [iblk1]
  · have hk : (outsAt0 m c (t.val - 1) (by have := t.isLt; omega)).2.2.2.1 = argW m c := kept m c _ _
    by_cases h7 : t.val % 8 = 7
    · rw [outsAt0_C m c t h0 h7]
      dsimp only
      refine (out7_C (hb := ?_) ..).trans ?_
      · rw [hk]; exact hb
      · rw [hk]
    · rw [outsAt0_B m c t h0 h7]
      dsimp only
      refine (out7_B (hb := ?_) ..).trans ?_
      · rw [hk]; exact hb
      · rw [hk]

/-- The gates added up after point `n`: at expert `e` and lane `l`, those of rows `l` and `512 + l` of every block so far. -/
theorem totals_at (e : Fin 16) (l : Fin 512) (n : ℕ) (hn : n < cfg0.N) :
    (outsAt0 m c n hn).2.2.2.2.1 (ix2 e l)
      = ∑ t ∈ Finset.range (n + 1), (rowGate (scores m c (row (1024 * t + l.val))) e + rowGate (scores m c (row (1024 * t + (512 + l.val)))) e) := by
  let r : Fin 1024 := ⟨l.val, by omega⟩
  let r' : Fin 1024 := ⟨512 + l.val, by omega⟩
  induction n with
  | zero =>
    have hb := blockScore_ne m c hs ⟨0, hn⟩
    rw [show (outsAt0 m c 0 hn) = _ from outsAt0_A m c ⟨0, hn⟩ rfl (by change ¬0 % 8 = 7; decide), Finset.sum_range_one]
    dsimp only
    refine (totals_A (r := r) (r' := r') (hr := rfl) (hr' := rfl) (hb := ?_) ..).trans ?_
    · rw [iblk1]; exact hb
    · rw [iblk1, blockScore_eq, blockScore_eq, zero_add]
  | succ n ih =>
    have hn8 : n + 1 < 8 := hn
    have hb := blockScore_ne m c hs ⟨n + 1, hn⟩
    have hk : (outsAt0 m c n (by omega)).2.2.2.1 = argW m c := kept m c _ _
    rw [Finset.sum_range_succ, ← ih (by omega), ← add_assoc]
    by_cases h7 : (n + 1) % 8 = 7
    · rw [show (outsAt0 m c (n + 1) hn) = _ from outsAt0_C m c ⟨n + 1, hn⟩ (by change ¬(n + 1) % 8 = 0; omega) h7]
      dsimp only
      refine (totals_C (r := r) (r' := r') (hr := rfl) (hr' := rfl) (hb := ?_) ..).trans ?_
      · refine fun a b => ?_
        exact (congrArg (fun w => blockScore _ w _ _ _ a b) hk).trans_ne (hb a b)
      · simp only [Nat.add_sub_cancel]
        rw [hk, blockScore_eq, blockScore_eq]
    · rw [show (outsAt0 m c (n + 1) hn) = _ from outsAt0_B m c ⟨n + 1, hn⟩ (by change ¬(n + 1) % 8 = 0; omega) h7]
      dsimp only
      refine (totals_B (r := r) (r' := r') (hr := rfl) (hr' := rfl) (hb := ?_) ..).trans ?_
      · refine fun a b => ?_
        exact (congrArg (fun w => blockScore _ w _ _ _ a b) hk).trans_ne (hb a b)
      · simp only [Nat.add_sub_cancel]
        rw [hk, blockScore_eq, blockScore_eq]

/-- The positive gates counted after point `n`, likewise. -/
theorem loads_at (e : Fin 16) (l : Fin 512) (n : ℕ) (hn : n < cfg0.N) :
    (outsAt0 m c n hn).2.2.2.2.2 (ix2 e l)
      = ∑ t ∈ Finset.range (n + 1), (positive (rowGate (scores m c (row (1024 * t + l.val))) e) + positive (rowGate (scores m c (row (1024 * t + (512 + l.val)))) e)) := by
  let r : Fin 1024 := ⟨l.val, by omega⟩
  let r' : Fin 1024 := ⟨512 + l.val, by omega⟩
  induction n with
  | zero =>
    have hb := blockScore_ne m c hs ⟨0, hn⟩
    rw [show (outsAt0 m c 0 hn) = _ from outsAt0_A m c ⟨0, hn⟩ rfl (by change ¬0 % 8 = 7; decide), Finset.sum_range_one]
    dsimp only
    refine (loads_A (r := r) (r' := r') (hr := rfl) (hr' := rfl) (hb := ?_) ..).trans ?_
    · rw [iblk1]; exact hb
    · rw [iblk1, blockScore_eq, blockScore_eq, zero_add]
  | succ n ih =>
    have hn8 : n + 1 < 8 := hn
    have hb := blockScore_ne m c hs ⟨n + 1, hn⟩
    have hk : (outsAt0 m c n (by omega)).2.2.2.1 = argW m c := kept m c _ _
    rw [Finset.sum_range_succ, ← ih (by omega), ← add_assoc]
    by_cases h7 : (n + 1) % 8 = 7
    · rw [show (outsAt0 m c (n + 1) hn) = _ from outsAt0_C m c ⟨n + 1, hn⟩ (by change ¬(n + 1) % 8 = 0; omega) h7]
      dsimp only
      refine (loads_C (r := r) (r' := r') (hr := rfl) (hr' := rfl) (hb := ?_) ..).trans ?_
      · refine fun a b => ?_
        exact (congrArg (fun w => blockScore _ w _ _ _ a b) hk).trans_ne (hb a b)
      · simp only [Nat.add_sub_cancel]
        rw [hk, blockScore_eq, blockScore_eq]
    · rw [show (outsAt0 m c (n + 1) hn) = _ from outsAt0_B m c ⟨n + 1, hn⟩ (by change ¬(n + 1) % 8 = 0; omega) h7]
      dsimp only
      refine (loads_B (r := r) (r' := r') (hr := rfl) (hr' := rfl) (hb := ?_) ..).trans ?_
      · refine fun a b => ?_
        exact (congrArg (fun w => blockScore _ w _ _ _ a b) hk).trans_ne (hb a b)
      · simp only [Nat.add_sub_cancel]
        rw [hk, blockScore_eq, blockScore_eq]

omit hs in
/-- Summing a block's two halves lane by lane, over the blocks, sums over all the rows. -/
theorem regroup (f : Fin 8192 → EReal) :
    ∑ l : Fin 512, ∑ t ∈ Finset.range 8, (f (row (1024 * t + l.val)) + f (row (1024 * t + (512 + l.val)))) = ∑ r, f r := by
  have key : ∀ n : ℕ, ∑ t ∈ Finset.range n, (∑ l ∈ Finset.range 512, f (row (1024 * t + l)) + ∑ l ∈ Finset.range 512, f (row (1024 * t + (512 + l))))
      = ∑ k ∈ Finset.range (1024 * n), f (row k) := fun n => by
    induction n with
    | zero => rfl
    | succ n ih =>
      rw [Finset.sum_range_succ, ih, show 1024 * (n + 1) = 1024 * n + (512 + 512) by ring, Finset.sum_range_add (n := 1024 * n),
        Finset.sum_range_add (n := 512)]
  have hr : ∑ r, f r = ∑ k ∈ Finset.range 8192, f (row k) := by
    rw [← Fin.sum_univ_eq_sum_range (fun k => f (row k))]
    exact Finset.sum_congr rfl fun r _ => congrArg f (Fin.ext (row_val r.isLt).symm)
  rw [hr, show (8192 : ℕ) = 1024 * 8 from rfl, ← key 8, Finset.sum_comm]
  refine Finset.sum_congr rfl fun t _ => ?_
  rw [Finset.sum_add_distrib, ← Fin.sum_univ_eq_sum_range (fun l => f (row (1024 * t + l))), ← Fin.sum_univ_eq_sum_range (fun l => f (row (1024 * t + (512 + l))))]

/-- The loss the last point leaves. -/
theorem loss_at (j : S1.Idx) :
    (outsAt0 m c 7 (by decide)).2.1 j = loss (importance (scores m c)) (load (scores m c)) := by
  have h := outsAt0_C m c ⟨7, by decide⟩ (by change ¬7 % 8 = 0; decide) rfl
  have h : outsAt0 m c 7 (by decide) = _ := h
  have ht := fun e l => totals_at m c hs e l 7 (by decide)
  have hl := fun e l => loads_at m c hs e l 7 (by decide)
  rw [h] at ht hl ⊢
  dsimp only at ht hl ⊢
  exact (out8_C ..).trans (congrArg₂ loss
    (funext fun e => (Finset.sum_congr rfl fun l _ => ht e l).trans (regroup fun r => rowGate (scores m c r) e))
    (funext fun e => (Finset.sum_congr rfl fun l _ => hl e l).trans (regroup fun r => positive (rowGate (scores m c r) e))))

/-- The first result: each row's gates times its experts' outputs, summed. -/
theorem final7 : (dats m 0 c).arrAt 7 cfg0.N = fun i : S8192.Idx => ∑ e, rowGate (scores m c (i 0)) e * experts m c (i 0) e := by
  refine (dats m 0 c).arrAt_eq_of_covers 7 _ (by decide +kernel) fun t _ y => ?_
  have ht : t.val < 8 := t.isLt
  blk_simp
  rw [after0_7]
  idx_vars y
  have hR : ((((cfg0.win 7).blk t).view.emb (ix1 y0)) 0 : Fin 8192) = row (1024 * t.val + y0.val) := by
    refine Fin.ext ((?_ : _ = _).trans (row_val (by omega)).symm)
    blk_simp [idx t]
    omega
  refine (outs_at m c hs t y0).trans ?_
  rw [← hR]
/-- The third result: the gates. -/
theorem final9 : (dats m 0 c).arrAt 9 cfg0.N = fun i : S8192x16.Idx => rowGate (scores m c (i 0)) (i 1) := by
  refine (dats m 0 c).arrAt_eq_of_covers 9 _ (by decide +kernel) fun t _ y => ?_
  have ht : t.val < 8 := t.isLt
  blk_simp
  rw [after0_9]
  idx_vars y
  have hR : ((((cfg0.win 9).blk t).view.emb (ix2 y0 y1)) 0 : Fin 8192) = row (1024 * t.val + y0.val) := by
    refine Fin.ext ((?_ : _ = _).trans (row_val (by omega)).symm)
    blk_simp [idx t]
    omega
  have hE : ((((cfg0.win 9).blk t).view.emb (ix2 y0 y1)) 1 : Fin 16) = y1 := by
    refine Fin.ext ?_
    blk_simp [idx t]
  refine (gates_at m c hs t y0 y1).trans ?_
  rw [← hR, hE]
/-- The second result: the loss. -/
theorem final8 : (dats m 0 c).arrAt 8 cfg0.N = fun _ : S1.Idx => loss (importance (scores m c)) (load (scores m c)) := by
  refine (dats m 0 c).arrAt_eq_of_after_last 8 t0_7 (by decide +kernel) _ fun j => ?_
  blk_simp
  rw [after0_8]
  exact loss_at m c hs j

end Cert.KernelIdeal.Router
-- ==== Proof.RefValue.lean ====
/-
  The arrays the reference leaves, as the same functions of its arguments as the kernel's: the scores, the mask its top two
  positions set, the softmax of the masked scores, the sums over the rows, and the loss.
-/
module

public import proofs.«01_k».proof.Proof.Gen.ReferenceIdeal.Read
public import proofs.«01_k».proof.Proof.Router
public import Idealize.ShloMosaic.Lib.Pointwise
public import Idealize.ShloMosaic.Lib.Routing.OpsSet
public import Idealize.ShloMosaic.Lib.Routing.OpsPair
public import Idealize.ShloMosaic.Lib.StableHlo.Predicate

@[expose] public section
set_option maxRecDepth 16384
noncomputable section
namespace Cert.ReferenceIdeal.Router
open Idealize.ShloMosaic Cert.ReferenceIdeal Cert.ReferenceIdeal.Gen Cert.ReferenceIdeal.Read Cert.Router
variable (x0 : (⟨S8192x1024, .f32⟩ : BufTy).Contents (Elt Ideal)) (x1 : (⟨S1024x1024, .f32⟩ : BufTy).Contents (Elt Ideal))
  (x2 : (⟨S1024, .f32⟩ : BufTy).Contents (Elt Ideal)) (x3 : (⟨S16x1024, .f32⟩ : BufTy).Contents (Elt Ideal))
  (x4 : (⟨S16, .f32⟩ : BufTy).Contents (Elt Ideal)) (x5 : (⟨S16x1024, .f32⟩ : BufTy).Contents (Elt Ideal)) (x6 : (⟨S16, .f32⟩ : BufTy).Contents (Elt Ideal))

/-- The scores of row `r`. -/
def scores (r : Fin 8192) : Fin 16 → EReal :=
  score (fun k j => x1 (ix2 k j)) (fun k => x2 (ix1 k)) (fun e k => x3 (ix2 e k)) (fun e => x4 (ix1 e)) (fun j => x0 (ix2 r j))
/-- The experts' outputs on row `r`. -/
def experts (r : Fin 8192) : Fin 16 → EReal :=
  expert (fun e k => x5 (ix2 e k)) (fun e => x6 (ix1 e)) (fun j => x0 (ix2 r j))

/-- The hidden layer. -/
theorem hidden_apply (r : Fin 8192) (k : Fin 1024) :
    val_main_v6 (F := Ideal) x0 x1 x2 (ix2 r k) = max (∑ j, x0 (ix2 r j) * x1 (ix2 k j) + x2 (ix1 k)) 0 := by
  pointwise [val_main_v6, val_main_v5, val_main_v4, val_main_v3, val_main_v2, val_main_v1, val_main_v0, val_main_cst]
/-- The scores. -/
theorem scores_apply (r : Fin 8192) (e : Fin 16) :
    val_main_v11 (F := Ideal) x0 x1 x2 x3 x4 (ix2 r e) = scores x0 x1 x2 x3 x4 r e := by
  have h := hidden_apply x0 x1 x2 r
  pointwise [val_main_v11, val_main_v10, val_main_v9, val_main_v8, val_main_v7, h]
  unfold scores score
  simp only [mul_comm]
/-- The experts' outputs. -/
theorem experts_apply (r : Fin 8192) (e : Fin 16) :
    val_main_v67 (F := Ideal) x0 x5 x6 (ix2 r e) = experts x0 x5 x6 r e := by
  pointwise [val_main_v67, val_main_v66, val_main_v65, val_main_v64, val_main_v63]
  unfold experts expert
  simp only [mul_comm]
/-- The position a stable sort along a dimension takes an entry from. -/
theorem sort_at {s : Shape} {α : Type} (cmp : α → α → BitVec 1) (X : s.Idx → α) (a : Fin s.rank) (j : s.Idx) :
    (Host.sort2 s a.val (fun l r => cmp l.1 r.1) X fun i => BitVec.ofNat 32 (i a).val).2 j
      = BitVec.ofNat 32 (sortedFrom (fun k k' => cmp (X (j.along a k)) (X (j.along a k')) == 1#1) (j a)).val := by
  unfold Host.sort2
  rw [dif_pos a.isLt]
  dsimp only [Shape.Idx.along]
  rw [Function.update_self]
/-- The position a stable sort of the rows' scores, greatest first, puts at `k` on row `r`. -/
theorem sort_apply (X : FVec Ideal S8192x16 .f32) (r : Fin 8192) (s : Fin 16 → EReal) (h : ∀ e, X (ix2 r e) = s e) (k : Fin 16) :
    (Host.sort2 S8192x16 1 (fun l r => FloatOps.cmpfTotal .gt l.1 r.1) X fun i => BitVec.ofNat 32 (i 1).val).2 (ix2 r k)
      = BitVec.ofNat 32 (sortedFrom (fun e e' => Ideal.cmpTotal .gt (s e) (s e') == 1#1) k).val := by
  have ha : ∀ e : Fin 16, (ix2 r k : S8192x16.Idx).along 1 e = ix2 r e := fun e => funext fun a => by
    match a with
    | ⟨0, _⟩ => rfl
    | ⟨1, _⟩ => rfl
  have hX : ∀ e : Fin 16, X ((ix2 r k : S8192x16.Idx).along 1 e) = s e := fun e => (congrArg X (ha e)).trans (h e)
  have hs : (fun e e' : Fin 16 => FloatOps.cmpfTotal (F := Ideal) .gt (X ((ix2 r k : S8192x16.Idx).along 1 e)) (X ((ix2 r k : S8192x16.Idx).along 1 e')) == 1#1)
      = fun e e' => Ideal.cmpTotal .gt (s e) (s e') == 1#1 := by
    funext e e'; rw [hX, hX]; rfl
  exact (sort_at (s := S8192x16) (FloatOps.cmpfTotal (F := Ideal) .gt) X 1 (ix2 r k)).trans
    (congrArg (fun f : Fin 16 → Fin 16 → Bool => BitVec.ofNat 32 (sortedFrom f k).val) hs)
/-- A position in range is not a negative word. -/
theorem wrapped (n : ℕ) (h : n < 8192) (a : BitVec 32) :
    Scalar.select (IntOp.cmpi .slt (BitVec.ofNat 32 n) 0#32) a (BitVec.ofNat 32 n) = BitVec.ofNat 32 n :=
  Routing.wrap_of_lt _ _ (by rw [BitVec.toNat_ofNat]; omega)
/-- Position `k` of the top two on row `r`. -/
theorem indices_apply (r : Fin 8192) (k : Fin 2) :
    val_main_indices (F := Ideal) x0 x1 x2 x3 x4 (ix2 r k)
      = BitVec.ofNat 32 (if k = 0 then pick1 (scores x0 x1 x2 x3 x4 r) else pick2 (scores x0 x1 x2 x3 x4 r)).val := by
  have h : ∀ e, val_main_v11 (F := Ideal) x0 x1 x2 x3 x4 (ix2 r e) = scores x0 x1 x2 x3 x4 r e := scores_apply x0 x1 x2 x3 x4 r
  unfold val_main_indices Host.topK
  pointwise []
  refine (sort_apply _ r _ h _).trans ?_
  refine congrArg (fun i : Fin 16 => BitVec.ofNat 32 i.val) ?_
  unfold pick1 pick2
  match k with
  | 0 => exact (if_pos rfl).symm
  | 1 => exact (if_neg (by decide)).symm
/-- The table of positions, at its two components. -/
theorem table_apply (r : Fin 8192) (k : Fin 2) :
    val_main_v28 (F := Ideal) x0 x1 x2 x3 x4 (ix3 r k 0) = BitVec.ofNat 32 r.val
    ∧ val_main_v28 (F := Ideal) x0 x1 x2 x3 x4 (ix3 r k 1)
      = BitVec.ofNat 32 (if k = 0 then pick1 (scores x0 x1 x2 x3 x4 r) else pick2 (scores x0 x1 x2 x3 x4 r)).val := by
  constructor
  · pointwise [val_main_v28, val_main_v26, val_main_v25, val_main_v19, val_main_v18, val_main_v17, val_main_v16, val_main_v15, val_main_v13, val_main_v12, val_main_c, val_main_c_1]
    exact wrapped _ r.isLt _
  · have h := indices_apply x0 x1 x2 x3 x4 r k
    pointwise [val_main_v28, val_main_v27, val_main_v24, val_main_v23, val_main_v22, val_main_v21, val_main_v20, val_main_c_2, val_main_c_3, h]
    exact wrapped _ (by omega) _
/-- A scatter of ones into zeros at two positions on each row leaves one at those two and zero elsewhere. -/
theorem marks (z : FVec Ideal S8192x16 .f32) (T : IVec S8192x2x2 32) (u : FVec Ideal S8192x2 .f32) (r : Fin 8192) (e : Fin 16)
    (p q : Fin 8192 → Fin 16) (hz : z (ix2 r e) = (0 : EReal)) (hu : ∀ k, u k = (1 : EReal))
    (hT : ∀ (a : Fin 8192) (b : Fin 2), T (ix3 a b 0) = BitVec.ofNat 32 a.val ∧ T (ix3 a b 1) = BitVec.ofNat 32 (if b = 0 then p a else q a).val) :
    Host.scatter scatter_S8192x16_S8192x2x2_S8192x2_n_01_01_2 (fun _ b => b) z T u (ix2 r e) = (if e = p r ∨ e = q r then 1 else 0 : EReal) := by
  have small : ∀ n : ℕ, n < 8192 → (BitVec.ofNat 32 n).toInt = n := fun n hn => by
    rw [BitVec.toInt_eq_toNat_of_lt (by rw [BitVec.toNat_ofNat]; omega), BitVec.toNat_ofNat, Nat.mod_eq_of_lt (by omega)]
  have lands : ∀ (a : Fin 8192) (b : Fin 2), scatter_S8192x16_S8192x2x2_S8192x2_n_01_01_2.resultIdx? (ix2 a b) T = some (ix2 r e)
      ↔ a = r ∧ (if b = 0 then p a else q a) = e := fun a b => by
    refine (Routing.scatter_lands2 (R := 8192) (C := 16) (A := 8192) (B := 2) scatter_S8192x16_S8192x2x2_S8192x2_n_01_01_2 rfl rfl rfl T a b r e).trans ?_
    have h0 : T (ValueIdx.ix3 a b 0) = _ := (hT a b).1
    have h1 : T (ValueIdx.ix3 a b 1) = _ := (hT a b).2
    rw [h0, h1, small _ a.isLt, small _ (by omega), Nat.cast_inj, Nat.cast_inj, Fin.val_inj, Fin.val_inj]
  by_cases h : e = p r ∨ e = q r
  · rw [if_pos h]
    obtain ⟨b, hb⟩ : ∃ b : Fin 2, (if b = 0 then p r else q r) = e := by
      rcases h with h | h
      · exact ⟨0, h.symm⟩
      · exact ⟨1, h.symm⟩
    exact Routing.scatter_set_hit _ _ _ _ _ _ (fun k _ => hu k) (ix2 r b) ((lands r b).mpr ⟨rfl, hb⟩)
  · rw [if_neg h]
    refine (Routing.scatter_set_miss _ _ _ _ _ fun k hk => h ?_).trans hz
    idx_vars k
    obtain ⟨rfl, hb⟩ := (lands _ _).mp hk
    split_ifs at hb
    · exact Or.inl hb.symm
    · exact Or.inr hb.symm
/-- The scatter's mask. -/
theorem mask_apply (r : Fin 8192) (e : Fin 16) :
    val_main_v30 (F := Ideal) x0 x1 x2 x3 x4 (ix2 r e)
      = if e = pick1 (scores x0 x1 x2 x3 x4 r) ∨ e = pick2 (scores x0 x1 x2 x3 x4 r) then 1 else 0 := by
  have one : ∀ k, val_main_v29 (F := Ideal) k = (1 : EReal) := fun k => by
    pointwise [val_main_v29, val_main_cst_4]
  have zero : val_main_v14 (F := Ideal) (ix2 r e) = (0 : EReal) := by
    pointwise [val_main_v14, val_main_cst_0]
  exact marks _ _ _ r e (fun a => pick1 (scores x0 x1 x2 x3 x4 a)) (fun a => pick2 (scores x0 x1 x2 x3 x4 a)) zero one
    fun a b => table_apply x0 x1 x2 x3 x4 a b
/-- The greatest masked score of a row. -/
theorem top_apply (r : Fin 8192) : val_main_v32 (F := Ideal) x0 x1 x2 x3 x4 (ix1 r) = max (scores x0 x1 x2 x3 x4 r (pick1 (scores x0 x1 x2 x3 x4 r))) 0 := by
  rw [← fold_max_masked _ (top2_picks _)]
  have h := scores_apply x0 x1 x2 x3 x4 r
  have h' := mask_apply x0 x1 x2 x3 x4 r
  pointwise [val_main_v32, val_main_v31, val_main_cst_5, h, h']
  rw [ofBits_neg_inf]
/-- The gates. -/
theorem gates_apply (r : Fin 8192) (e : Fin 16) :
    val_main_v42 (F := Ideal) x0 x1 x2 x3 x4 (ix2 r e) = rowGate (scores x0 x1 x2 x3 x4 r) e := by
  have h := scores_apply x0 x1 x2 x3 x4 r
  have h' := mask_apply x0 x1 x2 x3 x4 r
  have h'' := top_apply x0 x1 x2 x3 x4 r
  unfold rowGate
  rw [← softmax_masked _ (top2_picks _)]
  pointwise [val_main_v42, val_main_v41, val_main_v40, val_main_v39, val_main_v38, val_main_v37, val_main_v36, val_main_v35, val_main_v34, val_main_v33, val_main_v31, val_main_cst_6, val_main_cst_7, h, h', h'']
  simp only [ofBits_neg_inf, max_bot_left]
/-- The importances. -/
theorem importance_apply (e : Fin 16) :
    val_main_v43 (F := Ideal) x0 x1 x2 x3 x4 (ix1 e) = importance (scores x0 x1 x2 x3 x4) e := by
  have h := fun r => gates_apply x0 x1 x2 x3 x4 r e
  pointwise [val_main_v43, val_main_cst_8, h]
  rfl
/-- The first result. -/
theorem out_apply (r : Fin 8192) :
    val_main_v69 (F := Ideal) x0 x1 x2 x3 x4 x5 x6 (ix1 r) = ∑ e, rowGate (scores x0 x1 x2 x3 x4 r) e * experts x0 x5 x6 r e := by
  have h := gates_apply x0 x1 x2 x3 x4 r
  have h' := experts_apply x0 x5 x6 r
  pointwise [val_main_v69, val_main_v68, val_main_cst_20, h, h']
/-- The loads: the number of rows with a positive gate, counted in words and made a number. -/
theorem load_apply (e : Fin 16) :
    val_main_v54 (F := Ideal) x0 x1 x2 x3 x4 (ix1 e) = Cert.Router.load (scores x0 x1 x2 x3 x4) e := by
  have hc : (val_main_v47 (F := Ideal) x0 x1 x2 x3 x4 (ix1 e)).toNat
      = (Finset.univ.filter fun r : Fin 8192 => 0 < rowGate (scores x0 x1 x2 x3 x4 r) e).card := by
    refine (StableHlo.Predicate.toNat_reduce_count_rows (n := 8192) (m := 16) (by decide) (val_main_v45 (F := Ideal) x0 x1 x2 x3 x4) natLt_1_32
      reducesTo_S8192x16_S16_d0 h_S_ (ix1 e)).trans ?_
    congr 1
    refine Finset.filter_congr fun r _ => ?_
    have h : val_main_v45 (F := Ideal) x0 x1 x2 x3 x4 (ix2 r e) = BitVec.ofBool (decide (0 < rowGate (scores x0 x1 x2 x3 x4 r) e)) := by
      have h := gates_apply x0 x1 x2 x3 x4 r e
      pointwise [val_main_v45, val_main_v44, val_main_cst_9, h]
    refine (iff_of_eq (congrArg (· = 1#1) ((congrArg _ (Routing.ij_eq_ix2 r e)).trans h))).trans ?_
    by_cases hp : 0 < rowGate (scores x0 x1 x2 x3 x4 r) e <;> simp [hp]
  have hle : (val_main_v47 (F := Ideal) x0 x1 x2 x3 x4 (ix1 e)).toNat ≤ 8192 := by
    rw [hc]; exact (Finset.card_le_univ _).trans (by simp)
  show (((val_main_v47 (F := Ideal) x0 x1 x2 x3 x4 (ix1 e)).toInt : ℝ) : EReal) = _
  rw [BitVec.toInt_eq_toNat_of_lt (by omega), hc]
  unfold Cert.Router.load positive
  rw [Finset.sum_boole]
  simp
/-- Sixteen less the word one is fifteen, which is positive. -/
theorem fifteen : Ideal.ofBits .f32 0x41800000#32 - FloatOps.sitofp (F := Ideal) .f32 1#32 = Ideal.ofBits .f32 0x41700000#32
    ∧ (0 : EReal) < Ideal.ofBits .f32 0x41700000#32 := by
  have h16 : Ideal.ofBits .f32 0x41800000#32 = ((16 : ℝ) : EReal) := by
    simp [Ideal.ofBits, Ideal.ieee, -EReal.coe_mul]; norm_num
  have h15 : Ideal.ofBits .f32 0x41700000#32 = ((15 : ℝ) : EReal) := by
    simp [Ideal.ofBits, Ideal.ieee, -EReal.coe_mul]; norm_num
  have h1 : FloatOps.sitofp (F := Ideal) .f32 1#32 = ((1 : ℝ) : EReal) := by
    show (((1#32).toInt : ℝ) : EReal) = _
    simp
  rw [h16, h15, h1]
  refine ⟨?_, ?_⟩
  · rw [← EReal.coe_sub]; norm_num
  · exact_mod_cast (by norm_num : (0 : ℝ) < 15)
/-- The dispersion of the importances. -/
theorem dispersion_importance (i : S_.Idx) :
    val_main_v53 (F := Ideal) x0 x1 x2 x3 x4 i = dispersion (importance (scores x0 x1 x2 x3 x4)) := by
  have h := importance_apply x0 x1 x2 x3 x4
  pointwise [val_main_v53, val_main_v52, val_main_v51, val_main_v50, val_main_v49, val_main_v48, val_main_call0_v0, val_main_call0_v1, val_main_call0_v2, val_main_call0_v3,
    val_main_call0_v4, val_main_call0_v5, val_main_call0_v6, val_main_call0_v7, val_main_call0_v8, val_main_call0_v9, val_main_call0_v10, val_main_call0_v11,
    val_main_call0_call0_v0, val_main_call0_cst, val_main_call0_cst_0, val_main_call0_cst_1, val_main_call0_cst_2, val_main_call0_cst_3, val_main_c_11, val_main_cst_12,
    val_main_cst_13, val_main_cst_14, h]
  rw [fifteen.1, if_pos fifteen.2]
  rfl
/-- The dispersion of the loads. -/
theorem dispersion_load (i : S_.Idx) :
    val_main_v60 (F := Ideal) x0 x1 x2 x3 x4 i = dispersion (Cert.Router.load (scores x0 x1 x2 x3 x4)) := by
  have h := load_apply x0 x1 x2 x3 x4
  pointwise [val_main_v60, val_main_v59, val_main_v58, val_main_v57, val_main_v56, val_main_v55, val_main_call1_v0, val_main_call1_v1, val_main_call1_v2, val_main_call1_v3,
    val_main_call1_v4, val_main_call1_v5, val_main_call1_v6, val_main_call1_v7, val_main_call1_v8, val_main_call1_v9, val_main_call1_v10, val_main_call1_v11,
    val_main_call1_call0_v0, val_main_call1_cst, val_main_call1_cst_0, val_main_call1_cst_1, val_main_call1_cst_2, val_main_call1_cst_3, val_main_c_15, val_main_cst_16,
    val_main_cst_17, val_main_cst_18, h]
  rw [fifteen.1, if_pos fifteen.2]
  rfl
/-- The loss the reference returns, in its one cell. -/
theorem loss_apply (i : S1.Idx) :
    val_main_v70 (F := Ideal) x0 x1 x2 x3 x4 i
      = loss (importance (scores x0 x1 x2 x3 x4)) (Cert.Router.load (scores x0 x1 x2 x3 x4)) := by
  have h := dispersion_importance x0 x1 x2 x3 x4
  have h' := dispersion_load x0 x1 x2 x3 x4
  have hv : ∀ j, val_main_v62 (F := Ideal) x0 x1 x2 x3 x4 j
      = loss (importance (scores x0 x1 x2 x3 x4)) (Cert.Router.load (scores x0 x1 x2 x3 x4)) := fun j => by
    pointwise [val_main_v62, val_main_v61, val_main_cst_19, h, h']
    rfl
  unfold val_main_v70
  exact hv _
end Cert.ReferenceIdeal.Router
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.KernelIdeal.Value
public import proofs.«01_k».proof.Proof.Gen.Pre_finite_gate
public import proofs.«01_k».proof.Proof.KernelBlocks
public import proofs.«01_k».proof.Proof.RefValue
public import Idealize.ShloMosaic.Adequacy
public import Idealize.ShloMosaic.Init

@[expose] public section

noncomputable section

namespace Cert.Proof

open Idealize.ShloMosaic Idealize.SL.Sem Cert.Router

/-- A value the precondition's comparison passes is a real number. -/
theorem fin_of_test {x : EReal} (h : FloatOps.cmpf (F := Ideal) .olt (FloatOps.hostAbsf (F := Ideal) (φ := .f32) x) (Ideal.ofBits .f32 0x7F800000#32) = 1#1) : Fin' x := by
  rw [ofBits_pos_inf] at h
  refine fin_of_abs_lt ?_
  by_contra hc
  have h' : BitVec.ofBool (decide (max x (-x) < ⊤)) = 1#1 := h
  rw [decide_eq_false hc] at h'
  exact absurd h' (by decide)

/-- The precondition, read: every entry of the gate's arguments is a real number. -/
theorem pre_fin (x : FVec Ideal Cert.KernelIdeal.S8192x1024 .f32) (w : FVec Ideal Cert.KernelIdeal.S1024x1024 .f32)
    (b : FVec Ideal Cert.KernelIdeal.S1024 .f32) (wo : FVec Ideal Cert.KernelIdeal.S16x1024 .f32) (bo : FVec Ideal Cert.KernelIdeal.S16 .f32)
    (co : FVec Ideal Cert.KernelIdeal.S16x1024 .f32) (io : FVec Ideal Cert.KernelIdeal.S16 .f32)
    (h : (Cert.Pre_finite_gate.fn (F := Ideal) x w b wo bo co io).1 = (fun _ => 1#1)
      ∧ (Cert.Pre_finite_gate.fn (F := Ideal) x w b wo bo co io).2.1 = (fun _ => 1#1)
      ∧ (Cert.Pre_finite_gate.fn (F := Ideal) x w b wo bo co io).2.2.1 = (fun _ => 1#1)
      ∧ (Cert.Pre_finite_gate.fn (F := Ideal) x w b wo bo co io).2.2.2.1 = (fun _ => 1#1)
      ∧ (Cert.Pre_finite_gate.fn (F := Ideal) x w b wo bo co io).2.2.2.2 = (fun _ => 1#1)) :
    (∀ i, Fin' (x i)) ∧ (∀ i, Fin' (w i)) ∧ (∀ i, Fin' (b i)) ∧ (∀ i, Fin' (wo i)) ∧ (∀ i, Fin' (bo i)) := by
  simp only [Cert.Pre_finite_gate.fn] at h
  obtain ⟨h0, h1, h2, h3, h4⟩ := h
  exact ⟨fun i => fin_of_test (congrFun h0 i), fun i => fin_of_test (congrFun h1 i), fun i => fin_of_test (congrFun h2 i),
    fun i => fin_of_test (congrFun h3 i), fun i => fin_of_test (congrFun h4 i)⟩

/-- The reference's frame: its run leaves the arguments as they were, and it declares no semaphore. -/
theorem frame_reference : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

/-- The experts' outputs on every row, weighted by the row's gates. -/
def mixed (s t : Fin 8192 → Fin 16 → EReal) (i : Cert.KernelIdeal.S8192.Idx) : EReal := ∑ e, rowGate (s (i 0)) e * t (i 0) e

/-- Under the precondition the kernel and the reference leave the same three results. -/
theorem algebraic : Cert.algebraic_KernelIdeal_ReferenceIdeal_pre_finite_gate := fun m ρ m' ρ' hpre hag => by
  have hs : ∀ c r e, Cert.KernelIdeal.Router.scores m c r e ≠ ⊥ := fun c r e => by
    obtain ⟨h0, h1, h2, h3, h4⟩ := pre_fin _ _ _ _ _ _ _ (hpre c)
    exact (score_fin (fun k j => h1 _) (fun k => h2 _) (fun e k => h3 _) (fun e => h4 _) (fun j => h0 _) e).1
  have es : ∀ c : Dev Cert.KernelIdeal.nD, Cert.ReferenceIdeal.Router.scores
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg1))
      (m' ((c.tc : Thread Cert.ReferenceIdeal.nD Cert.ReferenceIdeal.τ).loc Cert.ReferenceIdeal.main_arg2))
      (m' ((c.tc : Thread Cert.ReferenceIdeal.nD Cert.ReferenceIdeal.τ).loc Cert.ReferenceIdeal.main_arg3))
      (m' ((c.tc : Thread Cert.ReferenceIdeal.nD Cert.ReferenceIdeal.τ).loc Cert.ReferenceIdeal.main_arg4))
      = Cert.KernelIdeal.Router.scores m c := fun c => by
    rw [(hag c).1, (hag c).2.1, (hag c).2.2.1, (hag c).2.2.2.1, (hag c).2.2.2.2.1]; rfl
  have ee : ∀ c : Dev Cert.KernelIdeal.nD, Cert.ReferenceIdeal.Router.experts
      (m' ((c.tc : Thread Cert.ReferenceIdeal.nD Cert.ReferenceIdeal.τ).loc Cert.ReferenceIdeal.main_arg0))
      (m' ((c.tc : Thread Cert.ReferenceIdeal.nD Cert.ReferenceIdeal.τ).loc Cert.ReferenceIdeal.main_arg5))
      (m' ((c.tc : Thread Cert.ReferenceIdeal.nD Cert.ReferenceIdeal.τ).loc Cert.ReferenceIdeal.main_arg6))
      = Cert.KernelIdeal.Router.experts m c := fun c => by
    rw [(hag c).1, (hag c).2.2.2.2.2.1, (hag c).2.2.2.2.2.2]; rfl
  refine ⟨fun c => mixed (Cert.KernelIdeal.Router.scores m c) (Cert.KernelIdeal.Router.experts m c),
    fun c => fun _ : Cert.KernelIdeal.S1.Idx => loss (importance (Cert.KernelIdeal.Router.scores m c)) (Cert.Router.load (Cert.KernelIdeal.Router.scores m c)),
    fun c => fun i : Cert.KernelIdeal.S8192x16.Idx => rowGate (Cert.KernelIdeal.Router.scores m c (i 0)) (i 1), ?_, ?_⟩
  · exact (θ_run Cert.KernelIdeal.defs _ _).mono (fun _ h c =>
      ⟨(h c).1.trans (Cert.KernelIdeal.Router.final7 m c (hs c)), (h c).2.1.trans (Cert.KernelIdeal.Router.final8 m c (hs c)),
        (h c).2.2.1.trans (Cert.KernelIdeal.Router.final9 m c (hs c)), (h c).2.2.2⟩)
      (Cert.KernelIdeal.Value.run_blocks m ρ)
  · refine (θ_run Cert.ReferenceIdeal.defs _ _).mono (fun _ h c =>
      ⟨((h c).1.trans (Cert.ReferenceIdeal.Read.val_main_v69_eq _)).trans (funext fun i => ?_),
        ((h c).2.1.trans (Cert.ReferenceIdeal.Read.val_main_v70_eq _)).trans (funext fun i => ?_),
        ((h c).2.2.1.trans (Cert.ReferenceIdeal.Read.val_main_v42_eq _)).trans (funext fun i => ?_), (h c).2.2.2⟩)
      (Cert.ReferenceIdeal.Value.run (F := Ideal) m' ρ')
    · idx_vars i
      exact (Cert.ReferenceIdeal.Router.out_apply _ _ _ _ _ _ _ i0).trans
        (congrArg₂ (fun (s t : Fin 8192 → Fin 16 → EReal) => ∑ e, rowGate (s i0) e * t i0 e) (es c) (ee c))
    · exact (Cert.ReferenceIdeal.Router.loss_apply _ _ _ _ _ i).trans
        (congrArg (fun s : Fin 8192 → Fin 16 → EReal => loss (importance s) (Cert.Router.load s)) (es c))
    · idx_vars i
      exact (Cert.ReferenceIdeal.Router.gates_apply _ _ _ _ _ i0 i1).trans
        (congrArg (fun s : Fin 8192 → Fin 16 → EReal => rowGate (s i0) i1) (es c))

/-- All the claims together. -/
theorem claim : Cert.Claim := ⟨Cert.Kernel.Gen.facts, Cert.KernelIdeal.Gen.facts, Cert.ReferenceIdeal.Gen.facts, Cert.Pre_finite_gate.Gen.facts,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial, trivial, algebraic⟩

end Cert.Proof

end
